-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclamped_KernelIdeal [hPre_unclamped_KernelIdeal : Cert.Pre_unclamped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclamped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclamped_ReferenceIdeal [hPre_unclamped_ReferenceIdeal : Cert.Pre_unclamped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclamped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_PlainIdeal (m : (ℓ : Loc Cert.PlainIdeal.nD Cert.PlainIdeal.τ Cert.PlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclamped_KernelIdeal [hKernelIdeal : Cert.KernelIdeal.Facts] [hPre_unclamped_KernelIdeal : Cert.Pre_unclamped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclamped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclamped_ReferenceIdeal [hReferenceIdeal : Cert.ReferenceIdeal.Facts] [hPre_unclamped_ReferenceIdeal : Cert.Pre_unclamped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclamped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ r.2.sem = fun _ => 0)

def preserves_Kernel_KernelIdeal : Prop :=
  True

def algebraic_KernelIdeal_ReferenceIdeal_pre_unclamped_KernelIdeal [hKernelIdeal : Cert.KernelIdeal.Facts] [hReferenceIdeal : Cert.ReferenceIdeal.Facts] [hPre_unclamped_KernelIdeal : Cert.Pre_unclamped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclamped_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_PlainIdeal [hKernelIdeal : Cert.KernelIdeal.Facts] [hPlainIdeal : Cert.PlainIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PlainIdeal.nD Cert.PlainIdeal.τ Cert.PlainIdeal.sig) → Buf (Elt Ideal) ℓ) (g' : Dev Cert.PlainIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.PlainIdeal.nD).tc : Thread Cert.PlainIdeal.nD Cert.PlainIdeal.τ).loc Cert.PlainIdeal.main_arg0))
      ∧ m ((c.tc : Thread Cert.KernelIdeal.nD Cert.KernelIdeal.τ).loc Cert.KernelIdeal.main_arg1) = m' (((0 : Dev Cert.PlainIdeal.nD).tc : Thread Cert.PlainIdeal.nD Cert.PlainIdeal.τ).loc Cert.PlainIdeal.main_arg1)) →
    ∃ (v0 : Buf (Elt Ideal) (((0 : Dev Cert.PlainIdeal.nD).tc : Thread Cert.PlainIdeal.nD Cert.PlainIdeal.τ).loc Cert.PlainIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.PlainIdeal.defs (F := Ideal)) (onTc (τ := Cert.PlainIdeal.τ) (Cert.PlainIdeal.main (F := Ideal))) ⟨m', fun _ => 0, g'⟩ (fun r =>
          r.2.mem (((0 : Dev Cert.PlainIdeal.nD).tc : Thread Cert.PlainIdeal.nD Cert.PlainIdeal.τ).loc Cert.PlainIdeal.main_v5) = v0
          ∧ r.2.mem (((0 : Dev Cert.PlainIdeal.nD).tc : Thread Cert.PlainIdeal.nD Cert.PlainIdeal.τ).loc Cert.PlainIdeal.main_arg0) = m' (((0 : Dev Cert.PlainIdeal.nD).tc : Thread Cert.PlainIdeal.nD Cert.PlainIdeal.τ).loc Cert.PlainIdeal.main_arg0)
          ∧ r.2.mem (((0 : Dev Cert.PlainIdeal.nD).tc : Thread Cert.PlainIdeal.nD Cert.PlainIdeal.τ).loc Cert.PlainIdeal.main_arg1) = m' (((0 : Dev Cert.PlainIdeal.nD).tc : Thread Cert.PlainIdeal.nD Cert.PlainIdeal.τ).loc Cert.PlainIdeal.main_arg1))

def Claim : Prop :=
  ∃ (hKernel : Cert.Kernel.Facts) (hKernelIdeal : Cert.KernelIdeal.Facts) (hReferenceIdeal : Cert.ReferenceIdeal.Facts) (hPlainIdeal : Cert.PlainIdeal.Facts) (hPre_unclamped_KernelIdeal : Cert.Pre_unclamped_KernelIdeal.Facts) (hPre_unclamped_ReferenceIdeal : Cert.Pre_unclamped_ReferenceIdeal.Facts),
    quiescent_Kernel (hKernel := hKernel)
    ∧ quiescent_KernelIdeal (hKernelIdeal := hKernelIdeal)
    ∧ quiescent_KernelIdeal_pre_unclamped_KernelIdeal (hKernelIdeal := hKernelIdeal) (hPre_unclamped_KernelIdeal := hPre_unclamped_KernelIdeal)
    ∧ quiescent_ReferenceIdeal (hReferenceIdeal := hReferenceIdeal)
    ∧ quiescent_ReferenceIdeal_pre_unclamped_ReferenceIdeal (hReferenceIdeal := hReferenceIdeal) (hPre_unclamped_ReferenceIdeal := hPre_unclamped_ReferenceIdeal)
    ∧ quiescent_PlainIdeal (hPlainIdeal := hPlainIdeal)
    ∧ preserves_Kernel_KernelIdeal
    ∧ algebraic_KernelIdeal_ReferenceIdeal_pre_unclamped_KernelIdeal (hKernelIdeal := hKernelIdeal) (hReferenceIdeal := hReferenceIdeal) (hPre_unclamped_KernelIdeal := hPre_unclamped_KernelIdeal)
    ∧ algebraic_KernelIdeal_PlainIdeal (hKernelIdeal := hKernelIdeal) (hPlainIdeal := hPlainIdeal)
-- ==== Pre_unclamped_KernelIdeal.lean ====
abbrev S2048x8192 : Shape := ⟨2, ![2048, 8192]⟩
abbrev S8192x4096 : Shape := ⟨2, ![8192, 4096]⟩
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  dot_S2048x8192_S8192x4096_S2048x4096_1_0_0_1_n_n_wf : DotDims.WF S2048x8192 S8192x4096 S2048x4096 [1] [0] [0] [1] [] []

variable [Facts]

def dot_S2048x8192_S8192x4096_S2048x4096_1_0_0_1_n_n : DotDims S2048x8192 S8192x4096 S2048x4096 where
  lhsContracting := [1]
  rhsContracting := [0]
  lhsNonContracting := [0]
  rhsNonContracting := [1]
  lhsBatch := []
  rhsBatch := []
  wf := dot_S2048x8192_S8192x4096_S2048x4096_1_0_0_1_n_n_wf
def fn {F : FTy → Type} [FloatOps F] (main_arg0 : FVec F S2048x8192 .f32) (main_arg1 : FVec F S8192x4096 .f32) : IVec S_ 1 :=
  let main_v0 : FVec F S2048x4096 .f32 := (fun l r => Host.dotGeneral dot_S2048x8192_S8192x4096_S2048x4096_1_0_0_1_n_n none l r) main_arg0 main_arg1
  let main_v1 : FVec F S2048x4096 .f32 := Host.absf main_v0
  let main_cst : FVec F S_ .f32 := constant S_ .f32 0x42700000#32
  let main_v2 : FVec F S2048x4096 .f32 := broadcastInDim S2048x4096 ![] bcast_S_S2048x4096 main_cst
  let main_v3 : IVec S2048x4096 1 := cmpf .ole main_v1 main_v2
  let main_c : IVec S_ 1 := constantI S_ 1 1#1
  let main_v4 : IVec S_ 1 := (fun x v => Host.reduce IntOp.andi x v reducesTo_S2048x4096_S_d0_1 h_S_) main_v3 main_c
  main_v4
-- ==== Pre_unclamped_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Kernel.lean ====
abbrev S2048x8192 : Shape := ⟨2, ![2048, 8192]⟩
abbrev S8192x4096 : Shape := ⟨2, ![8192, 4096]⟩
abbrev S_ : Shape := ⟨0, ![]⟩
abbrev S4 : Shape := ⟨1, ![4]⟩
abbrev S8192x1024 : Shape := ⟨2, ![8192, 1024]⟩
abbrev S2048x1024 : Shape := ⟨2, ![2048, 1024]⟩
abbrev S1024x1024 : Shape := ⟨2, ![1024, 1024]⟩
abbrev S1 : Shape := ⟨1, ![1]⟩
abbrev S2x2048x1024 : Shape := ⟨3, ![2, 2048, 1024]⟩
abbrev S3x2048x1024 : Shape := ⟨3, ![3, 2048, 1024]⟩
abbrev S3 : Shape := ⟨1, ![3]⟩
abbrev S1024x512 : Shape := ⟨2, ![1024, 512]⟩
abbrev S2048x512 : Shape := ⟨2, ![2048, 512]⟩
abbrev S1x2048x512 : Shape := ⟨3, ![1, 2048, 512]⟩
abbrev S1x2048x1024 : Shape := ⟨3, ![1, 2048, 1024]⟩

abbrev nBuf : Space → Nat
  | .hbm => 35
  | .vmem => 7
  | .smem => 1
  | _ => 0

abbrev bufTy : (tb : Table) → Fin (tcTables nBuf tb) → BufTy
  | .hbm, ⟨0, _⟩ => ⟨S2048x8192, .f32⟩
  | .hbm, ⟨1, _⟩ => ⟨S8192x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i1⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S_, .i1⟩
  | .hbm, ⟨29, _⟩ => ⟨S4, .i1⟩
  | .hbm, ⟨30, _⟩ => ⟨S4, .i1⟩
  | .hbm, ⟨31, _⟩ => ⟨S4, .i1⟩
  | .hbm, ⟨32, _⟩ => ⟨S4, .i32⟩
  | .hbm, ⟨33, _⟩ => ⟨S4, .i32⟩
  | .hbm, ⟨34, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2x2048x1024, .bf16⟩
  | .local _ .vmem, ⟨6, _⟩ => ⟨S3x2048x1024, .bf16⟩
  | .local _ .smem, ⟨0, _⟩ => ⟨S4, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v35 : BitVec 32 := Scalar.addi v2 c1_i32_16
  let c4_i32_17 : BitVec 32 := 4#32
  let c0_i32_18 : BitVec 32 := 0#32
  let v36 : BitVec 1 := Scalar.cmpi .eq c4_i32_17 c0_i32_18
  let c1_i32_19 : BitVec 32 := 1#32
  let v37 : BitVec 32 := Scalar.select v36 c1_i32_19 c4_i32_17
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c1_i32_24 : BitVec 32 := 1#32
  let v46 : BitVec 32 := Scalar.muli v45 c1_i32_24
  let v47 : BitVec 32 := Scalar.addi c0_i32_25 v46
  v47.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v48 : BitVec 32 := Scalar.addi v2 c2_i32
  let c4_i32_26 : BitVec 32 := 4#32
  let c0_i32_27 : BitVec 32 := 0#32
  let v49 : BitVec 1 := Scalar.cmpi .eq c4_i32_26 c0_i32_27
  let c1_i32_28 : BitVec 32 := 1#32
  let v50 : BitVec 32 := Scalar.select v49 c1_i32_28 c4_i32_26
  let v51 : BitVec 32 := Scalar.remsi v48 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c1_i32_33 : BitVec 32 := 1#32
  let v59 : BitVec 32 := Scalar.muli v58 c1_i32_33
  let v60 : BitVec 32 := Scalar.addi c0_i32_34 v59
  v60.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v61 : BitVec 32 := Scalar.addi v2 c3_i32
  let c4_i32_35 : BitVec 32 := 4#32
  let c0_i32_36 : BitVec 32 := 0#32
  let v62 : BitVec 1 := Scalar.cmpi .eq c4_i32_35 c0_i32_36
  let c1_i32_37 : BitVec 32 := 1#32
  let v63 : BitVec 32 := Scalar.select v62 c1_i32_37 c4_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c1_i32_42 : BitVec 32 := 1#32
  let v72 : BitVec 32 := Scalar.muli v71 c1_i32_42
  let v73 : BitVec 32 := Scalar.addi c0_i32_43 v72
  v73.toNat
def k0_cond6 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_15 : BitVec 32 := 0#32
  let v33 : BitVec 1 := Scalar.cmpi .ne v32 c0_i32_15
  v33

def k0_cond7 (i : grid0.Coords) : BitVec 1 :=
  let arg0 : BitVec 32 := BitVec.ofNat 32 (i 0).val
  let c0_i32_24 : BitVec 32 := 0#32
  let v46 : BitVec 1 := Scalar.cmpi .eq arg0 c0_i32_24
  let v47 : BitVec 32 := Scalar.extui v46
  let c0_i32_25 : BitVec 32 := 0#32
  let v48 : BitVec 1 := Scalar.cmpi .ne v47 c0_i32_25
  v48

def k0_dev4 (v68 : BitVec 32) : Nat :=
  let c0_i32_46 : BitVec 32 := 0#32
  let c1_i32_45 : BitVec 32 := 1#32
  let v69 : BitVec 32 := Scalar.muli v68 c1_i32_45
  let v70 : BitVec 32 := Scalar.addi c0_i32_46 v69
  v70.toNat

def k0_chk1 (i : grid0.Coords) (v68 : BitVec 32) : Prop :=
  (∀ (k0_h6 : k0_cond6 i = 1#1), ∀ (k0_h7 : k0_cond7 i = 1#1), (k0_dev4 v68) < nD)
theorem k0_dev4_lt : ∀ (i : grid0.Coords) (v68 : BitVec 32) (k0_hw1 : k0_chk1 i v68), ∀ (k0_h6 : k0_cond6 i = 1#1), ∀ (k0_h7 : k0_cond7 i = 1#1), (k0_dev4 v68) < nD := fun i v68 k0_hw1 k0_h6 k0_h7 => k0_hw1 k0_h6 k0_h7

def k0_cond8 (i : grid0.Coords) : BitVec 1 :=
  let arg0 : BitVec 32 := BitVec.ofNat 32 (i 0).val
  let c1_i32_26 : BitVec 32 := 1#32
  let v49 : BitVec 1 := Scalar.cmpi .eq arg0 c1_i32_26
  let v50 : BitVec 32 := Scalar.extui v49
  let c0_i32_27 : BitVec 32 := 0#32
  let v51 : BitVec 1 := Scalar.cmpi .ne v50 c0_i32_27
  v51

def k0_dev5 (v68 : BitVec 32) : Nat :=
  let c0_i32_45 : BitVec 32 := 0#32
  let c1_i32_44 : BitVec 32 := 1#32
  let v69 : BitVec 32 := Scalar.muli v68 c1_i32_44
  let v70 : BitVec 32 := Scalar.addi c0_i32_45 v69
  v70.toNat

def k0_chk2 (i : grid0.Coords) (v68 : BitVec 32) : Prop :=
  (∀ (k0_h6 : k0_cond6 i = 1#1), ∀ (k0_h8 : k0_cond8 i = 1#1), (k0_dev5 v68) < nD)
theorem k0_dev5_lt : ∀ (i : grid0.Coords) (v68 : BitVec 32) (k0_hw2 : k0_chk2 i v68), ∀ (k0_h6 : k0_cond6 i = 1#1), ∀ (k0_h8 : k0_cond8 i = 1#1), (k0_dev5 v68) < nD := fun i v68 k0_hw2 k0_h6 k0_h8 => k0_hw2 k0_h6 k0_h8

def k0_cond9 (i : grid0.Coords) : BitVec 1 :=
  let arg0 : BitVec 32 := BitVec.ofNat 32 (i 0).val
  let c2_i32 : BitVec 32 := 2#32
  let v52 : BitVec 1 := Scalar.cmpi .eq arg0 c2_i32
  let v53 : BitVec 32 := Scalar.extui v52
  let c0_i32_28 : BitVec 32 := 0#32
  let v54 : BitVec 1 := Scalar.cmpi .ne v53 c0_i32_28
  v54

def k0_dev6 (v75 : BitVec 32) : Nat :=
  let c0_i32_55 : BitVec 32 := 0#32
  let c1_i32_54 : BitVec 32 := 1#32
  let v76 : BitVec 32 := Scalar.muli v75 c1_i32_54
  let v77 : BitVec 32 := Scalar.addi c0_i32_55 v76
  v77.toNat

def k0_chk3 (i : grid0.Coords) (v75 : BitVec 32) : Prop :=
  (∀ (k0_h6 : k0_cond6 i = 1#1), ∀ (k0_h9 : k0_cond9 i = 1#1), (k0_dev6 v75) < nD)
theorem k0_dev6_lt : ∀ (i : grid0.Coords) (v75 : BitVec 32) (k0_hw3 : k0_chk3 i v75), ∀ (k0_h6 : k0_cond6 i = 1#1), ∀ (k0_h9 : k0_cond9 i = 1#1), (k0_dev6 v75) < nD := fun i v75 k0_hw3 k0_h6 k0_h9 => k0_hw3 k0_h6 k0_h9

def k0_cond10 (i : grid0.Coords) : BitVec 1 :=
  let arg0 : BitVec 32 := BitVec.ofNat 32 (i 0).val
  let c3_i32 : BitVec 32 := 3#32
  let v55 : BitVec 1 := Scalar.cmpi .eq arg0 c3_i32
  let v56 : BitVec 32 := Scalar.extui v55
  let c0_i32_29 : BitVec 32 := 0#32
  let v57 : BitVec 1 := Scalar.cmpi .ne v56 c0_i32_29
  v57

def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v58 : BitVec 32 := Scalar.muli v2 c2048_i32
  let c0_i32_30 : BitVec 32 := 0#32
  ![v58.toNat, 0]
def k0_off3 (d0 : Dev nD) (c0_i32_33 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v61 : BitVec 32 := Scalar.subi v2 c1_i32_32
  let v62 : BitVec 32 := Scalar.subi v61 c0_i32_33
  let c4_i32_34 : BitVec 32 := 4#32
  let c0_i32_35 : BitVec 32 := 0#32
  let v63 : BitVec 1 := Scalar.cmpi .eq c4_i32_34 c0_i32_35
  let c1_i32_36 : BitVec 32 := 1#32
  let v64 : BitVec 32 := Scalar.select v63 c1_i32_36 c4_i32_34
  let v65 : BitVec 32 := Scalar.remsi v62 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let c2048_i32_60 : BitVec 32 := 2048#32
  let v93 : BitVec 32 := Scalar.muli v72 c2048_i32_60
  let c0_i32_61 : BitVec 32 := 0#32
  ![v93.toNat, 0]
def k0_dev7 (d0 : Dev nD) : Nat :=
  let c0_i32_152_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143_r0 : BitVec 32 := 1#32
  let v181_r0 : BitVec 32 := Scalar.addi v2 c1_i32_143_r0
  let c4_i32_144_r0 : BitVec 32 := 4#32
  let c0_i32_145_r0 : BitVec 32 := 0#32
  let v182_r0 : BitVec 1 := Scalar.cmpi .eq c4_i32_144_r0 c0_i32_145_r0
  let c1_i32_146_r0 : BitVec 32 := 1#32
  let v183_r0 : BitVec 32 := Scalar.select v182_r0 c1_i32_146_r0 c4_i32_144_r0
  let v184_r0 : BitVec 32 := Scalar.remsi v181_r0 v183_r0
  let c0_i32_148_r0 : BitVec 32 := 0#32
  let v186_r0 : BitVec 1 := Scalar.cmpi .slt v184_r0 c0_i32_148_r0
  let c0_i32_149_r0 : BitVec 32 := 0#32
  let v187_r0 : BitVec 1 := Scalar.cmpi .slt v183_r0 c0_i32_149_r0
  let v188_r0 : BitVec 1 := Scalar.xori v186_r0 v187_r0
  let c0_i32_147_r0 : BitVec 32 := 0#32
  let v185_r0 : BitVec 1 := Scalar.cmpi .ne v184_r0 c0_i32_147_r0
  let v189_r0 : BitVec 1 := Scalar.andi v188_r0 v185_r0
  let v190_r0 : BitVec 32 := Scalar.addi v184_r0 v183_r0
  let v191_r0 : BitVec 32 := Scalar.select v189_r0 v190_r0 v184_r0
  let c1_i32_151_r0 : BitVec 32 := 1#32
  let v192_r0 : BitVec 32 := Scalar.muli v191_r0 c1_i32_151_r0
  let v193_r0 : BitVec 32 := Scalar.addi c0_i32_152_r0 v192_r0
  v193_r0.toNat
def k0_dev8 (d0 : Dev nD) : Nat :=
  let c0_i32_162_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_153_r0 : BitVec 32 := 2#32
  let v194_r0 : BitVec 32 := Scalar.addi v2 c2_i32_153_r0
  let c4_i32_154_r0 : BitVec 32 := 4#32
  let c0_i32_155_r0 : BitVec 32 := 0#32
  let v195_r0 : BitVec 1 := Scalar.cmpi .eq c4_i32_154_r0 c0_i32_155_r0
  let c1_i32_156_r0 : BitVec 32 := 1#32
  let v196_r0 : BitVec 32 := Scalar.select v195_r0 c1_i32_156_r0 c4_i32_154_r0
  let v197_r0 : BitVec 32 := Scalar.remsi v194_r0 v196_r0
  let c0_i32_158_r0 : BitVec 32 := 0#32
  let v199_r0 : BitVec 1 := Scalar.cmpi .slt v197_r0 c0_i32_158_r0
  let c0_i32_159_r0 : BitVec 32 := 0#32
  let v200_r0 : BitVec 1 := Scalar.cmpi .slt v196_r0 c0_i32_159_r0
  let v201_r0 : BitVec 1 := Scalar.xori v199_r0 v200_r0
  let c0_i32_157_r0 : BitVec 32 := 0#32
  let v198_r0 : BitVec 1 := Scalar.cmpi .ne v197_r0 c0_i32_157_r0
  let v202_r0 : BitVec 1 := Scalar.andi v201_r0 v198_r0
  let v203_r0 : BitVec 32 := Scalar.addi v197_r0 v196_r0
  let v204_r0 : BitVec 32 := Scalar.select v202_r0 v203_r0 v197_r0
  let c1_i32_161_r0 : BitVec 32 := 1#32
  let v205_r0 : BitVec 32 := Scalar.muli v204_r0 c1_i32_161_r0
  let v206_r0 : BitVec 32 := Scalar.addi c0_i32_162_r0 v205_r0
  v206_r0.toNat
def k0_dev9 (d0 : Dev nD) : Nat :=
  let c0_i32_172_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_163_r0 : BitVec 32 := 3#32
  let v207_r0 : BitVec 32 := Scalar.addi v2 c3_i32_163_r0
  let c4_i32_164_r0 : BitVec 32 := 4#32
  let c0_i32_165_r0 : BitVec 32 := 0#32
  let v208_r0 : BitVec 1 := Scalar.cmpi .eq c4_i32_164_r0 c0_i32_165_r0
  let c1_i32_166_r0 : BitVec 32 := 1#32
  let v209_r0 : BitVec 32 := Scalar.select v208_r0 c1_i32_166_r0 c4_i32_164_r0
  let v210_r0 : BitVec 32 := Scalar.remsi v207_r0 v209_r0
  let c0_i32_168_r0 : BitVec 32 := 0#32
  let v212_r0 : BitVec 1 := Scalar.cmpi .slt v210_r0 c0_i32_168_r0
  let c0_i32_169_r0 : BitVec 32 := 0#32
  let v213_r0 : BitVec 1 := Scalar.cmpi .slt v209_r0 c0_i32_169_r0
  let v214_r0 : BitVec 1 := Scalar.xori v212_r0 v213_r0
  let c0_i32_167_r0 : BitVec 32 := 0#32
  let v211_r0 : BitVec 1 := Scalar.cmpi .ne v210_r0 c0_i32_167_r0
  let v215_r0 : BitVec 1 := Scalar.andi v214_r0 v211_r0
  let v216_r0 : BitVec 32 := Scalar.addi v210_r0 v209_r0
  let v217_r0 : BitVec 32 := Scalar.select v215_r0 v216_r0 v210_r0
  let c1_i32_171_r0 : BitVec 32 := 1#32
  let v218_r0 : BitVec 32 := Scalar.muli v217_r0 c1_i32_171_r0
  let v219_r0 : BitVec 32 := Scalar.addi c0_i32_172_r0 v218_r0
  v219_r0.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![arg1.toNat, v1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== PlainIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Protocol.lean ====
/-
# The protocol of the fused GEMM + all-to-all kernel

Four devices. Device `c` computes four column tiles of its row block: first the tiles of the devices `c+1`, `c+2`,
`c+3` (steps 0, 1, 2), each sent to its owner as soon as it is ready, then its own. This module states the places,
the semaphore cells, what each unit on them hands over, and what a device owes at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Transfers
public import Idealize.ShloMosaic.Lib.Scf
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-! ## The algebra -/

/-- This protocol's copy of the rounds algebra: a cell's duties named by the three peers. -/
abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
def ER : Emb UX (MT nD τ sig Unit (Elt F) ℕ UU ℕ) := (Emb.inl : Emb UX (UX × Counters)).trans embR
abbrev EC : UEmb Counters (MT nD τ sig Unit (Elt F) ℕ UU ℕ) := countersEmb

instance ER_landsIn : (ER (F := F)).LandsIn (upEmb : UEmb _ (MT nD τ sig Unit (Elt F) ℕ UU ℕ)) := by
  unfold ER; infer_instance

abbrev 𝒱₀ : Variants := Variants.none

/-! ## Peers -/

set_option backward.proofsInPublic true in
/-- The device that step `j` of device `c` computes for: `c + 1 + j`. -/
def pe (c : Dev nD) (j : Fin 3) : Dev nD := ⟨(c.val + 1 + j.val) % 4, Nat.mod_lt _ (by decide)⟩
set_option backward.proofsInPublic true in
/-- The device whose step `j` computes for device `c`: `c - 1 - j`. -/
def sr (c : Dev nD) (j : Fin 3) : Dev nD := ⟨(c.val + 3 - j.val) % 4, Nat.mod_lt _ (by decide)⟩
theorem sr_pe (c : Dev nD) (j : Fin 3) : sr (pe c j) j = c := by revert c j; decide
theorem pe_sr (c : Dev nD) (j : Fin 3) : pe (sr c j) j = c := by revert c j; decide
def peEquiv (j : Fin 3) : Dev nD ≃ Dev nD := ⟨fun c => pe c j, fun c => sr c j, fun c => sr_pe c j, fun c => pe_sr c j⟩

/-! ## Buffers and slots -/

abbrev tblM : Memref sig .tc .smem S4 .i32 := Memref.whole main_v9
abbrev outM : Memref sig .tc .hbm S8192x1024 .f32 := Memref.whole main_v10
abbrev accM : Memref sig .tc .vmem S2048x1024 .f32 := Memref.whole cc0_scratch0
abbrev sendM : Memref sig .tc .vmem S2x2048x1024 .bf16 := Memref.whole cc0_scratch1
abbrev recvM : Memref sig .tc .vmem S3x2048x1024 .bf16 := Memref.whole cc0_scratch2

abbrev s0R : Rect S2x2048x1024 := Rect.unit (s := S2x2048x1024) ![0, 0, 0] S1x2048x1024.size inb_S2x2048x1024_S1x2048x1024_0_0_0
abbrev s1R : Rect S2x2048x1024 := Rect.unit (s := S2x2048x1024) ![1, 0, 0] S1x2048x1024.size inb_S2x2048x1024_S1x2048x1024_1_0_0
abbrev r0R : Rect S3x2048x1024 := Rect.unit (s := S3x2048x1024) ![0, 0, 0] S1x2048x1024.size inb_S3x2048x1024_S1x2048x1024_0_0_0
abbrev r1R : Rect S3x2048x1024 := Rect.unit (s := S3x2048x1024) ![1, 0, 0] S1x2048x1024.size inb_S3x2048x1024_S1x2048x1024_1_0_0
abbrev r2R : Rect S3x2048x1024 := Rect.unit (s := S3x2048x1024) ![2, 0, 0] S1x2048x1024.size inb_S3x2048x1024_S1x2048x1024_2_0_0

abbrev sS0 : Memref sig .tc .vmem S2048x1024 .bf16 := (sendM.slice s0R (fun _ => rfl)).squeeze S2048x1024 squeezes_S1x2048x1024_S2048x1024
abbrev sS1 : Memref sig .tc .vmem S2048x1024 .bf16 := (sendM.slice s1R (fun _ => rfl)).squeeze S2048x1024 squeezes_S1x2048x1024_S2048x1024
abbrev rS0 : Memref sig .tc .vmem S2048x1024 .bf16 := (recvM.slice r0R (fun _ => rfl)).squeeze S2048x1024 squeezes_S1x2048x1024_S2048x1024
abbrev rS1 : Memref sig .tc .vmem S2048x1024 .bf16 := (recvM.slice r1R (fun _ => rfl)).squeeze S2048x1024 squeezes_S1x2048x1024_S2048x1024
abbrev rS2 : Memref sig .tc .vmem S2048x1024 .bf16 := (recvM.slice r2R (fun _ => rfl)).squeeze S2048x1024 squeezes_S1x2048x1024_S2048x1024

/-- The elements of the send slot that step `j` sends from (two slots, taken in turn), and of receive slot `j`. -/
def sSet : Fin 3 → Finset (S2x2048x1024).Idx
  | 0 => sS0.view.set
  | 1 => sS1.view.set
  | 2 => sS0.view.set
def rSet : Fin 3 → Finset (S3x2048x1024).Idx
  | 0 => rS0.view.set
  | 1 => rS1.view.set
  | 2 => rS2.view.set

/-! ## The half windows the body loads and stores -/

abbrev aL : Rect S2048x1024 := Rect.unit (s := S2048x1024) ![0, 0] S2048x512.size inb_S2048x1024_S2048x512_0_0
abbrev aR : Rect S2048x1024 := Rect.unit (s := S2048x1024) ![0, 512] S2048x512.size inb_S2048x1024_S2048x512_0_512
abbrev s0L : Rect S2x2048x1024 := Rect.unit (s := S2x2048x1024) ![0, 0, 0] S1x2048x512.size inb_S2x2048x1024_S1x2048x512_0_0_0
abbrev s0Rt : Rect S2x2048x1024 := Rect.unit (s := S2x2048x1024) ![0, 0, 512] S1x2048x512.size inb_S2x2048x1024_S1x2048x512_0_0_512
abbrev s1L : Rect S2x2048x1024 := Rect.unit (s := S2x2048x1024) ![1, 0, 0] S1x2048x512.size inb_S2x2048x1024_S1x2048x512_1_0_0
abbrev s1Rt : Rect S2x2048x1024 := Rect.unit (s := S2x2048x1024) ![1, 0, 512] S1x2048x512.size inb_S2x2048x1024_S1x2048x512_1_0_512
abbrev r0L : Rect S3x2048x1024 := Rect.unit (s := S3x2048x1024) ![0, 0, 0] S1x2048x512.size inb_S3x2048x1024_S1x2048x512_0_0_0
abbrev r0Rt : Rect S3x2048x1024 := Rect.unit (s := S3x2048x1024) ![0, 0, 512] S1x2048x512.size inb_S3x2048x1024_S1x2048x512_0_0_512
abbrev r1L : Rect S3x2048x1024 := Rect.unit (s := S3x2048x1024) ![1, 0, 0] S1x2048x512.size inb_S3x2048x1024_S1x2048x512_1_0_0
abbrev r1Rt : Rect S3x2048x1024 := Rect.unit (s := S3x2048x1024) ![1, 0, 512] S1x2048x512.size inb_S3x2048x1024_S1x2048x512_1_0_512
abbrev r2L : Rect S3x2048x1024 := Rect.unit (s := S3x2048x1024) ![2, 0, 0] S1x2048x512.size inb_S3x2048x1024_S1x2048x512_2_0_0
abbrev r2Rt : Rect S3x2048x1024 := Rect.unit (s := S3x2048x1024) ![2, 0, 512] S1x2048x512.size inb_S3x2048x1024_S1x2048x512_2_0_512
abbrev wL : Rect S1024x1024 := Rect.unit (s := S1024x1024) ![0, 0] S1024x512.size inb_S1024x1024_S1024x512_0_0
abbrev wR : Rect S1024x1024 := Rect.unit (s := S1024x1024) ![0, 512] S1024x512.size inb_S1024x1024_S1024x512_0_512

abbrev HalfF : Type := Vec F S2048x512 .f32
abbrev HalfB : Type := Vec F S1x2048x512 .bf16

/-- The accumulator holds `L` in its left half and `R` in its right half. -/
def AccIs (f : (cc0_scratch0 : Ref sig .tc).ty.Contents (Elt F)) (L R : Vec F S2048x512 .f32) : Prop :=
  (accM.access aL : View sig .tc _ _ _).read (Elt F) f = L ∧ (accM.access aR : View sig .tc _ _ _).read (Elt F) f = R

/-- The send slot of step `j` holds the halves `L`, `R`; -/
def SendIs (j : Fin 3) (f : (cc0_scratch1 : Ref sig .tc).ty.Contents (Elt F)) (L R : Vec F S1x2048x512 .bf16) : Prop :=
  match j with
  | 0 => (sendM.access s0L : View sig .tc _ _ _).read (Elt F) f = L ∧ (sendM.access s0Rt : View sig .tc _ _ _).read (Elt F) f = R
  | 1 => (sendM.access s1L : View sig .tc _ _ _).read (Elt F) f = L ∧ (sendM.access s1Rt : View sig .tc _ _ _).read (Elt F) f = R
  | 2 => (sendM.access s0L : View sig .tc _ _ _).read (Elt F) f = L ∧ (sendM.access s0Rt : View sig .tc _ _ _).read (Elt F) f = R
/-- receive slot `j` does. -/
def RecvIs (j : Fin 3) (f : (cc0_scratch2 : Ref sig .tc).ty.Contents (Elt F)) (L R : Vec F S1x2048x512 .bf16) : Prop :=
  match j with
  | 0 => (recvM.access r0L : View sig .tc _ _ _).read (Elt F) f = L ∧ (recvM.access r0Rt : View sig .tc _ _ _).read (Elt F) f = R
  | 1 => (recvM.access r1L : View sig .tc _ _ _).read (Elt F) f = L ∧ (recvM.access r1Rt : View sig .tc _ _ _).read (Elt F) f = R
  | 2 => (recvM.access r2L : View sig .tc _ _ _).read (Elt F) f = L ∧ (recvM.access r2Rt : View sig .tc _ _ _).read (Elt F) f = R

/-! ## The table of peers -/

/-- Device `c`'s table: entry `j` is the device step `j` computes for. -/
def tblv (c : Dev nD) : (main_v9 : Ref sig .tc).ty.Contents (Elt F) :=
  fun i => (BitVec.ofNat 32 ((c.val + 1 + (i 0).val) % 4) : BitVec 32)

def tblC (c : Dev nD) : pre0.Contents (Elt F) := fun k => match k with
  | ⟨0, _⟩ => tblv c

/-- What step `s`'s window index reads off the table. -/
theorem tbl_at (c : Dev nD) (i : grid0.Coords) :
    (cc0_transform_1 (F := F) k0_off1_inb numel1_S1 (tblC c) i) = ![(i 1).val, (c.val + 1 + (i 0).val) % 4] := by
  funext a
  have h1 : (i 1).val < 8 := (i 1).isLt
  have h0 : (i 0).val < 4 := (i 0).isLt
  fin_cases a
  · show (BitVec.ofNat 32 (i 1).val).toNat = (i 1).val
    rw [BitVec.toNat_ofNat]; exact Nat.mod_eq_of_lt (by omega)
  · show (BitVec.ofNat 32 ((c.val + 1 + (k0_off1 i 0 + 0)) % 4)).toNat = (c.val + 1 + (i 0).val) % 4
    rw [k0_off1_eq, BitVec.toNat_ofNat]; exact Nat.mod_eq_of_lt (by omega)

theorem tbl_ok (c : Dev nD) : ok0 (F := F) (tblC c) := fun i => by
  have h1 : (i 1).val < 8 := (i 1).isLt
  have h0 : (i 0).val < 4 := (i 0).isLt
  refine ⟨fun a => ?_, Or.inl rfl⟩
  rw [tbl_at]
  fin_cases a
  · show ((i 1).val + 1) * 1024 ≤ 8192; omega
  · show ((c.val + 1 + (i 0).val) % 4 + 1) * 1024 ≤ 4096; omega

def adm (c : Dev nD) : (pcfg0 (F := F)).Adm := ⟨tblC c, tbl_ok c⟩
def admD (c : Dev nD) (p : Fin 1) : (pcfgs (F := F) p).Adm := adm c
abbrev cfgc (c : Dev nD) : Cfg sig Λ₀ := (pcfg0 (F := F)).at (adm c)

theorem cfgc_N (c : Dev nD) : (cfgc (F := F) c).N = 32 := N_0

/-! ## What is computed -/

variable (m : (ℓ : Loc nD τ sig) → Buf (Elt F) ℓ)

/-- Point `n` of the grid. -/
def pt (n : ℕ) : Fin grid0.N := ⟨n % 32, by rw [N_0]; exact Nat.mod_lt _ (by decide)⟩

/-- The blocks of `x` and of `w` device `c` is handed at point `n`. -/
def Xb (c : Dev nD) (n : ℕ) : Vec F S2048x1024 .f32 :=
  (((cfgc (F := F) c).win (0 : Fin 2)).blk (pt n)).view.read (Elt F) (m ((c : Thread nD τ).loc main_arg0))
def Wb (c : Dev nD) (n : ℕ) : Vec F S1024x1024 .f32 :=
  (((cfgc (F := F) c).win (1 : Fin 2)).blk (pt n)).view.read (Elt F) (m ((c : Thread nD τ).loc main_arg1))
/-- The two column halves of the block of `w`. -/
def WbL (c : Dev nD) (n : ℕ) : Vec F S1024x512 .f32 := fun i => Wb m c n (wL.emb i)
def WbR (c : Dev nD) (n : ℕ) : Vec F S1024x512 .f32 := fun i => Wb m c n (wR.emb i)

/-- The accumulator's halves after the products of point `n`. -/
def accL (c : Dev nD) : ℕ → Vec F S2048x512 .f32
  | 0 => k0_pay17 (Xb m c 0) (WbL m c 0)
  | n + 1 => if (n + 1) % 8 = 0 then k0_pay17 (Xb m c (n + 1)) (WbL m c (n + 1)) else k0_pay18 (Xb m c (n + 1)) (WbL m c (n + 1)) (accL c n)
def accR (c : Dev nD) : ℕ → Vec F S2048x512 .f32
  | 0 => k0_pay20 (Xb m c 0) (WbR m c 0)
  | n + 1 => if (n + 1) % 8 = 0 then k0_pay20 (Xb m c (n + 1)) (WbR m c (n + 1)) else k0_pay21 (Xb m c (n + 1)) (WbR m c (n + 1)) (accR c n)

/-- The tile of step `s`, its halves, after the activation. -/
def tileL (c : Dev nD) (s : ℕ) : Vec F S2048x512 .f32 := k0_pay1 (accL m c (8 * s + 7))
def tileR (c : Dev nD) (s : ℕ) : Vec F S2048x512 .f32 := k0_pay2 (accR m c (8 * s + 7))
/-- What step `j` sends: the tile rounded. -/
def chunkL (c : Dev nD) (j : Fin 3) : Vec F S1x2048x512 .bf16 := k0_pay3 (tileL m c j.val)
def chunkR (c : Dev nD) (j : Fin 3) : Vec F S1x2048x512 .bf16 := k0_pay4 (tileR m c j.val)

/-! ## The cells -/

abbrev barS : Sem sig := barrier0
abbrev exitS : Sem sig := cc0_scoped0.sem
set_option backward.proofsInPublic true in
def sendS (j : Fin 3) : DmaSem sig := ⟨4 + j.val, by have := j.isLt; show 4 + j.val < 11; omega⟩
set_option backward.proofsInPublic true in
def recvS (j : Fin 3) : DmaSem sig := ⟨7 + j.val, by have := j.isLt; show 7 + j.val < 11; omega⟩
abbrev locS : DmaSem sig := cc0_scratch5.sem

abbrev barCell (c : Dev nD) : GSem nD τ sig := ((c : Thread nD τ), .reg barS)
abbrev exitCell (c : Dev nD) : GSem nD τ sig := ((c : Thread nD τ), .reg exitS)
abbrev sendCell (c : Dev nD) (j : Fin 3) : GSem nD τ sig := ((c : Thread nD τ), .dma (sendS j))
abbrev recvCell (c : Dev nD) (j : Fin 3) : GSem nD τ sig := ((c : Thread nD τ), .dma (recvS j))

/-- What a semaphore is for. -/
inductive CK
  | bar
  | exit
  | send (j : Fin 3)
  | recv (j : Fin 3)
  | other
  deriving DecidableEq

def ck : SemLoc sig → CK
  | .reg s => if s = barS then .bar else if s = exitS then .exit else .other
  | .dma s => if s = sendS 0 then .send 0 else if s = sendS 1 then .send 1 else if s = sendS 2 then .send 2
      else if s = recvS 0 then .recv 0 else if s = recvS 1 then .recv 1 else if s = recvS 2 then .recv 2 else .other

theorem ck_bar : ck (.reg barS) = .bar := by decide
theorem ck_exit : ck (.reg exitS) = .exit := by decide
theorem ck_send (j : Fin 3) : ck (.dma (sendS j)) = .send j := by revert j; decide
theorem ck_recv (j : Fin 3) : ck (.dma (recvS j)) = .recv j := by revert j; decide
theorem ck_loc : ck (.dma locS) = .other := by decide

/-- The units one tile's transfer puts on a cell. -/
def NN : ℕ := rS0.view.dmaCredit
theorem NN_pos : 0 < NN := View.dmaCredit_pos _ (by decide)

/-- What device `c` holds to send its tile `j`: the receive slot on the peer, and that the peer's cells are open. -/
def gift (c : Dev nD) (j : Fin 3) : sProp 𝕄 :=
  iprop((∃ f : Buf (Elt F) ((pe c j : Thread nD τ).loc cc0_scratch2), ((pe c j : Thread nD τ).loc cc0_scratch2) ↦[rSet j]{fullShare} f)
    ∗ reached ER (recvCell (pe c j) j) 0 ∗ reached ER (exitCell (pe c j)) 0)

/-- A send slot given back; -/
def sendPay (c : Dev nD) (j : Fin 3) : sProp 𝕄 :=
  iprop(∃ f : Buf (Elt F) ((c : Thread nD τ).loc cc0_scratch1), ((c : Thread nD τ).loc cc0_scratch1) ↦[sSet j]{fullShare} f)
/-- a receive slot filled. -/
def recvPay (c : Dev nD) (j : Fin 3) : sProp 𝕄 :=
  iprop(∃ f : Buf (Elt F) ((c : Thread nD τ).loc cc0_scratch2), ⌜RecvIs j f (chunkL m (sr c j) j) (chunkR m (sr c j) j)⌝
    ∗ ((c : Thread nD τ).loc cc0_scratch2) ↦[rSet j]{fullShare} f)

def Rd : Rounds.Schedule (GSem nD τ sig) (Fin 3) 𝕄 where
  duties g r := if r = 0 ∧ g.1.2 = .tc then
      (match ck g.2 with | .bar => Finset.univ | .exit => Finset.univ | .send _ => {0} | .recv _ => {0} | .other => ∅) else ∅
  unitless _ := False
  amount g _ _ := match ck g.2 with | .bar => 1 | .exit => 1 | .send _ => NN | .recv _ => NN | .other => 1
  payload g _ d := match ck g.2 with
    | .bar => gift g.1.1 d
    | .exit => iprop(emp)
    | .send j => sendPay g.1.1 j
    | .recv j => recvPay m g.1.1 j
    | .other => iprop(emp)
  amount_pos g r d _ := by
    cases ck g.2
    · exact Nat.one_pos
    · exact Nat.one_pos
    · exact NN_pos
    · exact NN_pos
    · exact Nat.one_pos

instance Rd_payload_storable (g : GSem nD τ sig) (r : ℕ) (d : Fin 3) : BI.Storable (upEmb : UEmb _ 𝕄) ((Rd m).payload g r d) := by
  show BI.Storable upEmb (match ck g.2 with
    | .bar => gift g.1.1 d
    | .exit => iprop(emp)
    | .send j => sendPay g.1.1 j
    | .recv j => recvPay m g.1.1 j
    | .other => iprop(emp))
  cases ck g.2
  · show BI.Storable upEmb (gift g.1.1 d); unfold gift; infer_instance
  · show BI.Storable upEmb iprop(emp); infer_instance
  · show BI.Storable upEmb (sendPay g.1.1 _); unfold sendPay; infer_instance
  · show BI.Storable upEmb (recvPay m g.1.1 _); unfold recvPay; infer_instance
  · show BI.Storable upEmb iprop(emp); infer_instance

theorem duties_bar (c : Dev nD) : (Rd m).duties (barCell c) 0 = Finset.univ := by
  dsimp only [Rd]; rw [if_pos ⟨rfl, rfl⟩, ck_bar]
theorem duties_exit (c : Dev nD) : (Rd m).duties (exitCell c) 0 = Finset.univ := by
  dsimp only [Rd]; rw [if_pos ⟨rfl, rfl⟩, ck_exit]
theorem duties_send (c : Dev nD) (j : Fin 3) : (Rd m).duties (sendCell c j) 0 = {0} := by
  dsimp only [Rd]; rw [if_pos ⟨rfl, rfl⟩, ck_send]
theorem duties_recv (c : Dev nD) (j : Fin 3) : (Rd m).duties (recvCell c j) 0 = {0} := by
  dsimp only [Rd]; rw [if_pos ⟨rfl, rfl⟩, ck_recv]
theorem duties_later (g : GSem nD τ sig) : ∀ r, 1 ≤ r → (Rd m).duties g r = ∅ := fun r hr => by
  dsimp only [Rd]; exact if_neg fun h => by omega
theorem amount_bar (c : Dev nD) (d : Fin 3) : (Rd m).amount (barCell c) 0 d = 1 := by dsimp only [Rd]; rw [ck_bar]
theorem amount_exit (c : Dev nD) (d : Fin 3) : (Rd m).amount (exitCell c) 0 d = 1 := by dsimp only [Rd]; rw [ck_exit]
theorem amount_send (c : Dev nD) (j d : Fin 3) : (Rd m).amount (sendCell c j) 0 d = NN := by dsimp only [Rd]; rw [ck_send]
theorem amount_recv (c : Dev nD) (j d : Fin 3) : (Rd m).amount (recvCell c j) 0 d = NN := by dsimp only [Rd]; rw [ck_recv]
theorem payload_bar (c : Dev nD) (d : Fin 3) : (Rd m).payload (barCell c) 0 d = gift c d := by dsimp only [Rd]; rw [ck_bar]
theorem payload_exit (c : Dev nD) (d : Fin 3) : (Rd m).payload (exitCell c) 0 d = iprop(emp) := by dsimp only [Rd]; rw [ck_exit]
theorem payload_send (c : Dev nD) (j d : Fin 3) : (Rd m).payload (sendCell c j) 0 d = sendPay c j := by dsimp only [Rd]; rw [ck_send]
theorem payload_recv (c : Dev nD) (j d : Fin 3) : (Rd m).payload (recvCell c j) 0 d = recvPay m c j := by dsimp only [Rd]; rw [ck_recv]

theorem expect_bar (c : Dev nD) : (Rd m).expect (barCell c) 0 = 3 := by
  unfold Schedule.expect Schedule.amountOf; rw [duties_bar]; simp only [amount_bar]; rfl
theorem expect_exit (c : Dev nD) : (Rd m).expect (exitCell c) 0 = 3 := by
  unfold Schedule.expect Schedule.amountOf; rw [duties_exit]; simp only [amount_exit]; rfl
theorem expect_send (c : Dev nD) (j : Fin 3) : (Rd m).expect (sendCell c j) 0 = NN := by
  unfold Schedule.expect Schedule.amountOf; rw [duties_send, Finset.sum_singleton, amount_send]
theorem expect_recv (c : Dev nD) (j : Fin 3) : (Rd m).expect (recvCell c j) 0 = NN := by
  unfold Schedule.expect Schedule.amountOf; rw [duties_recv, Finset.sum_singleton, amount_recv]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar (c : Dev nD) : bigSep ((Rd m).duties (barCell c) 0 \ ∅) (fun d => (Rd m).payload (barCell c) 0 d)
    = iprop(gift c 0 ∗ gift c 1 ∗ gift c 2) := by
  rw [Finset.sdiff_empty, duties_bar, bigSep_fin3, payload_bar, payload_bar, payload_bar]
theorem rest_send (c : Dev nD) (j : Fin 3) : bigSep ((Rd m).duties (sendCell c j) 0 \ ∅) (fun d => (Rd m).payload (sendCell c j) 0 d)
    = sendPay c j := by
  rw [Finset.sdiff_empty, duties_send, bigSep_singleton, payload_send]
theorem rest_recv (c : Dev nD) (j : Fin 3) : bigSep ((Rd m).duties (recvCell c j) 0 \ ∅) (fun d => (Rd m).payload (recvCell c j) 0 d)
    = recvPay m c j := by
  rw [Finset.sdiff_empty, duties_recv, bigSep_singleton, payload_recv]

/-! ## What a device owes, and the levels -/

/-- The `k`-th payment from the end: three exits, three tiles, three barrier units. -/
def payCell (c : Dev nD) : ℕ → GSem nD τ sig
  | 0 => exitCell (pe c 2)
  | 1 => exitCell (pe c 1)
  | 2 => exitCell (pe c 0)
  | 3 => recvCell (pe c 2) 2
  | 4 => recvCell (pe c 1) 1
  | 5 => recvCell (pe c 0) 0
  | 6 => barCell (sr c 0)
  | 7 => barCell (sr c 1)
  | _ => barCell (sr c 2)
def payAmt : ℕ → ℕ
  | 3 => NN
  | 4 => NN
  | 5 => NN
  | _ => 1
/-- The last `n` payments. -/
def owe (c : Dev nD) : ℕ → CellTallies nD τ sig Unit
  | 0 => 0
  | n + 1 => owe c n + tallyAt (payCell c n) () (payAmt n)

abbrev O₀ (c : Dev nD) : CellTallies nD τ sig Unit := owe c 9

theorem owe_pos {c : Dev nD} {g : GSem nD τ sig} {u : Unit} : ∀ {n : ℕ}, 0 < owe c n g u → ∃ k, k < n ∧ g = payCell c k
  | 0, h => absurd h (Nat.lt_irrefl 0)
  | n + 1, h => by
    by_cases hg : g = payCell c n
    · exact ⟨n, Nat.lt_succ_self n, hg⟩
    · have h' : 0 < owe c n g u := by
        have h2 : 0 < owe c n g u + tallyAt (payCell c n) () (payAmt n) g u := h
        rw [tallyAt_apply, if_neg (fun h' => hg h'.1)] at h2
        exact h2
      obtain ⟨k, hk, e⟩ := owe_pos h'
      exact ⟨k, Nat.lt_succ_of_lt hk, e⟩

def L (g : GSem nD τ sig) : Finset Unit := if g.1.2 = .tc then {()} else ∅
def lvl (s : SemLoc sig) : ℕ := match ck s with | .bar => 1 | .recv _ => 2 | .exit => 3 | _ => 0
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl
theorem payCell_L (c : Dev nD) (k : ℕ) : () ∈ L (payCell c k) := by
  unfold payCell; split <;> (rw [L_tc]; exact Finset.mem_singleton_self _)

theorem payCell_lv (c : Dev nD) (k : ℕ) : lvl (payCell c k).2 = if k < 3 then 3 else if k < 6 then 2 else 1 := by
  match k with
  | 0 => decide +revert
  | 1 => decide +revert
  | 2 => decide +revert
  | 3 => decide +revert
  | 4 => decide +revert
  | 5 => decide +revert
  | 6 => decide +revert
  | 7 => decide +revert
  | n + 8 => rw [if_neg (by omega), if_neg (by omega)]; show lvl (.reg barS) = 1; decide

/-- A wait at a level below everything still owed. -/
theorem mayWait_of (c : Dev nD) (sm : SemLoc sig) (n : ℕ) (h : ∀ k, k < n → lvl sm < lvl (payCell c k).2) :
    (levAts L lv : sProp 𝕄) ⊢ MayWait (c : Thread nD τ) sm () (owe c n) :=
  MayOwe.of_cut (L := L) (lev := lv) (lvl sm)
    (fun p hp => by rw [Finset.mem_singleton.mp hp, L_tc]; exact Finset.mem_singleton_self _)
    (fun g u hg => by obtain ⟨k, _, rfl⟩ := owe_pos hg; exact payCell_L c k)
    (fun p hp => by rw [Finset.mem_singleton.mp hp]; exact le_rfl)
    (fun g u hg => by obtain ⟨k, hk, rfl⟩ := owe_pos hg; exact h k hk)

theorem mayWait_low (c : Dev nD) (sm : SemLoc sig) (n : ℕ) (h : lvl sm = 0) :
    (levAts L lv : sProp 𝕄) ⊢ MayWait (c : Thread nD τ) sm () (owe c n) :=
  mayWait_of c sm n fun k _ => by rw [h, payCell_lv]; split; · decide
                                  split <;> decide

end Cert.A2A
-- ==== Proof.Windows.lean ====
/-
# Windows of the scratch buffers

Which elements the slots and the half windows cover, and what is read back after a store or after a transfer.
-/
module

public import proofs.«01_k».proof.Proof.Protocol
public import Idealize.ShloMosaic.Lib.ViewIndex

@[expose] public section

noncomputable section

namespace Cert.A2A

open Cert.KernelIdeal Cert.KernelIdeal.Gen

open Idealize.ShloMosaic
open Idealize.ShloMosaic.TcCoe
open Idealize.SL Idealize.SL.RA Idealize.SL.BI

variable {F : FTy → Type} [FloatOps F]

/-! ## Elements of the slots -/

theorem set_s0 : sS0.view.set = s0R.set := by
  simp only [Memref.view_squeeze, View.set_reshape, View.set_slice]; exact Finset.map_refl
theorem set_s1 : sS1.view.set = s1R.set := by
  simp only [Memref.view_squeeze, View.set_reshape, View.set_slice]; exact Finset.map_refl
theorem set_r0 : rS0.view.set = r0R.set := by
  simp only [Memref.view_squeeze, View.set_reshape, View.set_slice]; exact Finset.map_refl
theorem set_r1 : rS1.view.set = r1R.set := by
  simp only [Memref.view_squeeze, View.set_reshape, View.set_slice]; exact Finset.map_refl
theorem set_r2 : rS2.view.set = r2R.set := by
  simp only [Memref.view_squeeze, View.set_reshape, View.set_slice]; exact Finset.map_refl

theorem lt1 (i : (S2x2048x1024).Idx) : (i 1).val < 2048 := (i 1).isLt
theorem lt2 (i : (S2x2048x1024).Idx) : (i 2).val < 1024 := (i 2).isLt
theorem lt0 (i : (S2x2048x1024).Idx) : (i 0).val < 2 := (i 0).isLt
theorem lt1' (i : (S3x2048x1024).Idx) : (i 1).val < 2048 := (i 1).isLt
theorem lt2' (i : (S3x2048x1024).Idx) : (i 2).val < 1024 := (i 2).isLt
theorem lt0' (i : (S3x2048x1024).Idx) : (i 0).val < 3 := (i 0).isLt

/-- An index of a slot is one with the slot's number first. -/
theorem mem_sSet (j : Fin 3) (i : (S2x2048x1024).Idx) : i ∈ sSet j ↔ (i 0).val = j.val % 2 := by
  have h0 := lt0 i; have h1 := lt1 i; have h2 := lt2 i
  fin_cases j
  · show i ∈ sS0.view.set ↔ _
    rw [set_s0, Rect.mem_set_unit]
    refine ⟨fun h => ?_, fun h a => ?_⟩
    · have := h 0; change 0 ≤ _ ∧ _ < 0 + 1 at this; change _ = 0; omega
    · change (i 0).val = 0 at h
      fin_cases a
      · show 0 ≤ (i 0).val ∧ (i 0).val < 0 + 1; omega
      · show 0 ≤ (i 1).val ∧ (i 1).val < 0 + 2048; omega
      · show 0 ≤ (i 2).val ∧ (i 2).val < 0 + 1024; omega
  · show i ∈ sS1.view.set ↔ _
    rw [set_s1, Rect.mem_set_unit]
    refine ⟨fun h => ?_, fun h a => ?_⟩
    · have := h 0; change 1 ≤ _ ∧ _ < 1 + 1 at this; change _ = 1; omega
    · change (i 0).val = 1 at h
      fin_cases a
      · show 1 ≤ (i 0).val ∧ (i 0).val < 1 + 1; omega
      · show 0 ≤ (i 1).val ∧ (i 1).val < 0 + 2048; omega
      · show 0 ≤ (i 2).val ∧ (i 2).val < 0 + 1024; omega
  · show i ∈ sS0.view.set ↔ _
    rw [set_s0, Rect.mem_set_unit]
    refine ⟨fun h => ?_, fun h a => ?_⟩
    · have := h 0; change 0 ≤ _ ∧ _ < 0 + 1 at this; change _ = 0; omega
    · change (i 0).val = 0 at h
      fin_cases a
      · show 0 ≤ (i 0).val ∧ (i 0).val < 0 + 1; omega
      · show 0 ≤ (i 1).val ∧ (i 1).val < 0 + 2048; omega
      · show 0 ≤ (i 2).val ∧ (i 2).val < 0 + 1024; omega

theorem mem_rSet (j : Fin 3) (i : (S3x2048x1024).Idx) : i ∈ rSet j ↔ (i 0).val = j.val := by
  have h0 := lt0' i; have h1 := lt1' i; have h2 := lt2' i
  fin_cases j
  · show i ∈ rS0.view.set ↔ _
    rw [set_r0, Rect.mem_set_unit]
    refine ⟨fun h => ?_, fun h a => ?_⟩
    · have := h 0; change 0 ≤ _ ∧ _ < 0 + 1 at this; change _ = 0; omega
    · change (i 0).val = 0 at h
      fin_cases a
      · show 0 ≤ (i 0).val ∧ (i 0).val < 0 + 1; omega
      · show 0 ≤ (i 1).val ∧ (i 1).val < 0 + 2048; omega
      · show 0 ≤ (i 2).val ∧ (i 2).val < 0 + 1024; omega
  · show i ∈ rS1.view.set ↔ _
    rw [set_r1, Rect.mem_set_unit]
    refine ⟨fun h => ?_, fun h a => ?_⟩
    · have := h 0; change 1 ≤ _ ∧ _ < 1 + 1 at this; change _ = 1; omega
    · change (i 0).val = 1 at h
      fin_cases a
      · show 1 ≤ (i 0).val ∧ (i 0).val < 1 + 1; omega
      · show 0 ≤ (i 1).val ∧ (i 1).val < 0 + 2048; omega
      · show 0 ≤ (i 2).val ∧ (i 2).val < 0 + 1024; omega
  · show i ∈ rS2.view.set ↔ _
    rw [set_r2, Rect.mem_set_unit]
    refine ⟨fun h => ?_, fun h a => ?_⟩
    · have := h 0; change 2 ≤ _ ∧ _ < 2 + 1 at this; change _ = 2; omega
    · change (i 0).val = 2 at h
      fin_cases a
      · show 2 ≤ (i 0).val ∧ (i 0).val < 2 + 1; omega
      · show 0 ≤ (i 1).val ∧ (i 1).val < 0 + 2048; omega
      · show 0 ≤ (i 2).val ∧ (i 2).val < 0 + 1024; omega

theorem sSet_cover : sSet 0 ∪ sSet 1 = Finset.univ := by
  ext i; rw [Finset.mem_union, mem_sSet, mem_sSet]; have := lt0 i
  refine ⟨fun _ => Finset.mem_univ _, fun _ => ?_⟩
  show (i 0).val = 0 ∨ (i 0).val = 1; omega
theorem sSet_disj : Disjoint (sSet 0) (sSet 1) := Finset.disjoint_left.mpr fun i h h' => by
  rw [mem_sSet] at h h'; change (i 0).val = 0 at h; change (i 0).val = 1 at h'; omega
theorem rSet_cover : (rSet 0 ∪ rSet 1) ∪ rSet 2 = Finset.univ := by
  ext i; rw [Finset.mem_union, Finset.mem_union, mem_rSet, mem_rSet, mem_rSet]; have := lt0' i
  refine ⟨fun _ => Finset.mem_univ _, fun _ => ?_⟩
  show ((i 0).val = 0 ∨ (i 0).val = 1) ∨ (i 0).val = 2; omega
theorem rSet_disj01 : Disjoint (rSet 0) (rSet 1) := Finset.disjoint_left.mpr fun i h h' => by
  rw [mem_rSet] at h h'; change (i 0).val = 0 at h; change (i 0).val = 1 at h'; omega
theorem rSet_disj2 : Disjoint (rSet 0 ∪ rSet 1) (rSet 2) := Finset.disjoint_left.mpr fun i h h' => by
  rw [Finset.mem_union, mem_rSet, mem_rSet] at h; rw [mem_rSet] at h'
  change (i 0).val = 0 ∨ (i 0).val = 1 at h; change (i 0).val = 2 at h'; omega

/-! ## Half windows lie in their slots -/

theorem sub_of_rect_s {j : Fin 3} {o c : ℕ} {inb} (ho : o = j.val % 2) :
    ((sendM.access (Rect.unit (s := S2x2048x1024) ![o, 0, c] S1x2048x512.size inb)) : View sig .tc _ _ _).set ⊆ sSet j := by
  intro i hi
  rw [View.set_slice] at hi
  rw [Finset.mem_map] at hi
  obtain ⟨x, hx, rfl⟩ := hi
  rw [mem_sSet]
  have := (Rect.mem_set_unit.mp hx) 0
  change o ≤ (x 0).val ∧ (x 0).val < o + 1 at this
  show (x 0).val = j.val % 2
  omega
theorem sub_of_rect_r {j : Fin 3} {o c : ℕ} {inb} (ho : o = j.val) :
    ((recvM.access (Rect.unit (s := S3x2048x1024) ![o, 0, c] S1x2048x512.size inb)) : View sig .tc _ _ _).set ⊆ rSet j := by
  intro i hi
  rw [View.set_slice] at hi
  rw [Finset.mem_map] at hi
  obtain ⟨x, hx, rfl⟩ := hi
  rw [mem_rSet]
  have := (Rect.mem_set_unit.mp hx) 0
  change o ≤ (x 0).val ∧ (x 0).val < o + 1 at this
  show (x 0).val = j.val
  omega

/-! ## Stores to one half leave the other -/

theorem disj_acc : Disjoint (aL).set (aR).set := Rect.unit_disjoint (1 : Fin 2) (Or.inl (by decide))

theorem AccIs.storeL {f : (cc0_scratch0 : Ref sig .tc).ty.Contents (Elt F)} {L R : Vec F S2048x512 .f32} (h : AccIs f L R) (w : Vec F S2048x512 .f32) :
    AccIs ((accM.access aL : View sig .tc _ _ _).write (Elt F) f w Finset.univ) w R :=
  ⟨View.read_write_univ _ _, (View.read_slice_write_slice_of_disjoint _ _ _ _ _ (View.disjoint_slice disj_acc.symm)).trans h.2⟩
theorem AccIs.storeR {f : (cc0_scratch0 : Ref sig .tc).ty.Contents (Elt F)} {L R : Vec F S2048x512 .f32} (h : AccIs f L R) (w : Vec F S2048x512 .f32) :
    AccIs ((accM.access aR : View sig .tc _ _ _).write (Elt F) f w Finset.univ) L w :=
  ⟨(View.read_slice_write_slice_of_disjoint _ _ _ _ _ (View.disjoint_slice disj_acc)).trans h.1, View.read_write_univ _ _⟩

theorem disj_s0 : Disjoint (s0L).set (s0Rt).set := Rect.unit_disjoint (2 : Fin 3) (Or.inl (by decide))
theorem disj_s1 : Disjoint (s1L).set (s1Rt).set := Rect.unit_disjoint (2 : Fin 3) (Or.inl (by decide))

theorem send_store0 (j : Fin 3) (hj : j.val % 2 = 0) (f : (cc0_scratch1 : Ref sig .tc).ty.Contents (Elt F)) (l r : Vec F S1x2048x512 .bf16) :
    SendIs j ((sendM.access s0Rt : View sig .tc _ _ _).write (Elt F) ((sendM.access s0L : View sig .tc _ _ _).write (Elt F) f l Finset.univ) r Finset.univ) l r := by
  have h : (sendM.access s0L : View sig .tc _ _ _).read (Elt F) ((sendM.access s0Rt : View sig .tc _ _ _).write (Elt F) ((sendM.access s0L : View sig .tc _ _ _).write (Elt F) f l Finset.univ) r Finset.univ) = l
      ∧ (sendM.access s0Rt : View sig .tc _ _ _).read (Elt F) ((sendM.access s0Rt : View sig .tc _ _ _).write (Elt F) ((sendM.access s0L : View sig .tc _ _ _).write (Elt F) f l Finset.univ) r Finset.univ) = r :=
    ⟨(View.read_slice_write_slice_of_disjoint _ _ _ _ _ (View.disjoint_slice disj_s0)).trans (View.read_write_univ _ _), View.read_write_univ _ _⟩
  fin_cases j
  · exact h
  · exact absurd hj (by decide)
  · exact h
theorem send_store1 (f : (cc0_scratch1 : Ref sig .tc).ty.Contents (Elt F)) (l r : Vec F S1x2048x512 .bf16) :
    SendIs 1 ((sendM.access s1Rt : View sig .tc _ _ _).write (Elt F) ((sendM.access s1L : View sig .tc _ _ _).write (Elt F) f l Finset.univ) r Finset.univ) l r :=
  ⟨(View.read_slice_write_slice_of_disjoint _ _ _ _ _ (View.disjoint_slice disj_s1)).trans (View.read_write_univ _ _), View.read_write_univ _ _⟩

/-! ## A tile carried from a send slot to a receive slot -/

/-- Where element `y` of a half window lies in the tile. -/
def inL (y : (S1x2048x512).Idx) : (S2048x1024).Idx := fun a => match a with
  | 0 => ⟨(y 1).val, by have : (y 1).val < 2048 := (y 1).isLt; exact this⟩
  | 1 => ⟨(y 2).val, by have : (y 2).val < 512 := (y 2).isLt; show _ < 1024; omega⟩
def inR (y : (S1x2048x512).Idx) : (S2048x1024).Idx := fun a => match a with
  | 0 => ⟨(y 1).val, by have : (y 1).val < 2048 := (y 1).isLt; exact this⟩
  | 1 => ⟨512 + (y 2).val, by have : (y 2).val < 512 := (y 2).isLt; show _ < 1024; omega⟩
/-- A tile's index with a leading unit axis. -/
def up (z : (S2048x1024).Idx) : (S1x2048x1024).Idx := fun a => match a with
  | 0 => ⟨0, Nat.one_pos⟩
  | 1 => z 0
  | 2 => z 1

theorem reshape_up (h : S2048x1024.numel = S1x2048x1024.numel) (z : (S2048x1024).Idx) : Shape.reshapeEquiv h z = up z := by
  apply Shape.reshapeEquiv_eq_of_rowMajor
  rw [Shape.rowMajor_val_three, Shape.rowMajor_val_two]
  show (0 * _ + (z 0).val) * 1024 + (z 1).val = (z 0).val * 1024 + (z 1).val
  omega

theorem emb_s0L (y : (S1x2048x512).Idx) : sS0.view.emb (inL y) = (sendM.access s0L : View sig .tc _ _ _).emb y := by
  show (s0R).emb (Shape.reshapeEquiv _ (inL y)) = (s0L).emb y
  rw [reshape_up]
  have hy : (y 0).val = 0 := by have : (y 0).val < 1 := (y 0).isLt; omega
  funext a; apply Fin.ext
  fin_cases a
  · show 0 + 1 * 0 = 0 + 1 * (y 0).val; omega
  · rfl
  · rfl

theorem emb_s0Rt (y : (S1x2048x512).Idx) : sS0.view.emb (inR y) = (sendM.access s0Rt : View sig .tc _ _ _).emb y := by
  show (s0R).emb (Shape.reshapeEquiv _ (inR y)) = (s0Rt).emb y
  rw [reshape_up]
  have hy : (y 0).val = 0 := by have : (y 0).val < 1 := (y 0).isLt; omega
  funext a; apply Fin.ext
  fin_cases a
  · show 0 + 1 * 0 = 0 + 1 * (y 0).val; omega
  · rfl
  · show 0 + 1 * (512 + (y 2).val) = 512 + 1 * (y 2).val; omega

theorem emb_s1L (y : (S1x2048x512).Idx) : sS1.view.emb (inL y) = (sendM.access s1L : View sig .tc _ _ _).emb y := by
  show (s1R).emb (Shape.reshapeEquiv _ (inL y)) = (s1L).emb y
  rw [reshape_up]
  have hy : (y 0).val = 0 := by have : (y 0).val < 1 := (y 0).isLt; omega
  funext a; apply Fin.ext
  fin_cases a
  · show 1 + 1 * 0 = 1 + 1 * (y 0).val; omega
  · rfl
  · rfl

theorem emb_s1Rt (y : (S1x2048x512).Idx) : sS1.view.emb (inR y) = (sendM.access s1Rt : View sig .tc _ _ _).emb y := by
  show (s1R).emb (Shape.reshapeEquiv _ (inR y)) = (s1Rt).emb y
  rw [reshape_up]
  have hy : (y 0).val = 0 := by have : (y 0).val < 1 := (y 0).isLt; omega
  funext a; apply Fin.ext
  fin_cases a
  · show 1 + 1 * 0 = 1 + 1 * (y 0).val; omega
  · rfl
  · show 0 + 1 * (512 + (y 2).val) = 512 + 1 * (y 2).val; omega

theorem emb_r0L (y : (S1x2048x512).Idx) : rS0.view.emb (inL y) = (recvM.access r0L : View sig .tc _ _ _).emb y := by
  show (r0R).emb (Shape.reshapeEquiv _ (inL y)) = (r0L).emb y
  rw [reshape_up]
  have hy : (y 0).val = 0 := by have : (y 0).val < 1 := (y 0).isLt; omega
  funext a; apply Fin.ext
  fin_cases a
  · show 0 + 1 * 0 = 0 + 1 * (y 0).val; omega
  · rfl
  · rfl

theorem emb_r0Rt (y : (S1x2048x512).Idx) : rS0.view.emb (inR y) = (recvM.access r0Rt : View sig .tc _ _ _).emb y := by
  show (r0R).emb (Shape.reshapeEquiv _ (inR y)) = (r0Rt).emb y
  rw [reshape_up]
  have hy : (y 0).val = 0 := by have : (y 0).val < 1 := (y 0).isLt; omega
  funext a; apply Fin.ext
  fin_cases a
  · show 0 + 1 * 0 = 0 + 1 * (y 0).val; omega
  · rfl
  · show 0 + 1 * (512 + (y 2).val) = 512 + 1 * (y 2).val; omega

theorem emb_r1L (y : (S1x2048x512).Idx) : rS1.view.emb (inL y) = (recvM.access r1L : View sig .tc _ _ _).emb y := by
  show (r1R).emb (Shape.reshapeEquiv _ (inL y)) = (r1L).emb y
  rw [reshape_up]
  have hy : (y 0).val = 0 := by have : (y 0).val < 1 := (y 0).isLt; omega
  funext a; apply Fin.ext
  fin_cases a
  · show 1 + 1 * 0 = 1 + 1 * (y 0).val; omega
  · rfl
  · rfl

theorem emb_r1Rt (y : (S1x2048x512).Idx) : rS1.view.emb (inR y) = (recvM.access r1Rt : View sig .tc _ _ _).emb y := by
  show (r1R).emb (Shape.reshapeEquiv _ (inR y)) = (r1Rt).emb y
  rw [reshape_up]
  have hy : (y 0).val = 0 := by have : (y 0).val < 1 := (y 0).isLt; omega
  funext a; apply Fin.ext
  fin_cases a
  · show 1 + 1 * 0 = 1 + 1 * (y 0).val; omega
  · rfl
  · show 0 + 1 * (512 + (y 2).val) = 512 + 1 * (y 2).val; omega

theorem emb_r2L (y : (S1x2048x512).Idx) : rS2.view.emb (inL y) = (recvM.access r2L : View sig .tc _ _ _).emb y := by
  show (r2R).emb (Shape.reshapeEquiv _ (inL y)) = (r2L).emb y
  rw [reshape_up]
  have hy : (y 0).val = 0 := by have : (y 0).val < 1 := (y 0).isLt; omega
  funext a; apply Fin.ext
  fin_cases a
  · show 2 + 1 * 0 = 2 + 1 * (y 0).val; omega
  · rfl
  · rfl

theorem emb_r2Rt (y : (S1x2048x512).Idx) : rS2.view.emb (inR y) = (recvM.access r2Rt : View sig .tc _ _ _).emb y := by
  show (r2R).emb (Shape.reshapeEquiv _ (inR y)) = (r2Rt).emb y
  rw [reshape_up]
  have hy : (y 0).val = 0 := by have : (y 0).val < 1 := (y 0).isLt; omega
  funext a; apply Fin.ext
  fin_cases a
  · show 2 + 1 * 0 = 2 + 1 * (y 0).val; omega
  · rfl
  · show 0 + 1 * (512 + (y 2).val) = 512 + 1 * (y 2).val; omega

/-- What receive slot 0 holds after the transfer of send slot 0. -/
theorem recv_of_send0 (fs : (cc0_scratch1 : Ref sig .tc).ty.Contents (Elt F)) (fd : (cc0_scratch2 : Ref sig .tc).ty.Contents (Elt F))
    {l r : Vec F S1x2048x512 .bf16} (h : SendIs 0 fs l r) :
    RecvIs 0 (rS0.view.write (Elt F) fd (sS0.view.read (Elt F) fs) Finset.univ) l r := by
  obtain ⟨hl, hr⟩ := h
  constructor
  · funext y
    refine Eq.trans ?_ (congrFun hl y)
    show (rS0.view.write (Elt F) fd (sS0.view.read (Elt F) fs) Finset.univ) ((recvM.access r0L : View sig .tc _ _ _).emb y) = fs ((sendM.access s0L : View sig .tc _ _ _).emb y)
    rw [← emb_r0L, ← emb_s0L]
    exact congrFun (View.read_write_univ (v := rS0.view) fd (sS0.view.read (Elt F) fs)) (inL y)
  · funext y
    refine Eq.trans ?_ (congrFun hr y)
    show (rS0.view.write (Elt F) fd (sS0.view.read (Elt F) fs) Finset.univ) ((recvM.access r0Rt : View sig .tc _ _ _).emb y) = fs ((sendM.access s0Rt : View sig .tc _ _ _).emb y)
    rw [← emb_r0Rt, ← emb_s0Rt]
    exact congrFun (View.read_write_univ (v := rS0.view) fd (sS0.view.read (Elt F) fs)) (inR y)

/-- What receive slot 1 holds after the transfer of send slot 1. -/
theorem recv_of_send1 (fs : (cc0_scratch1 : Ref sig .tc).ty.Contents (Elt F)) (fd : (cc0_scratch2 : Ref sig .tc).ty.Contents (Elt F))
    {l r : Vec F S1x2048x512 .bf16} (h : SendIs 1 fs l r) :
    RecvIs 1 (rS1.view.write (Elt F) fd (sS1.view.read (Elt F) fs) Finset.univ) l r := by
  obtain ⟨hl, hr⟩ := h
  constructor
  · funext y
    refine Eq.trans ?_ (congrFun hl y)
    show (rS1.view.write (Elt F) fd (sS1.view.read (Elt F) fs) Finset.univ) ((recvM.access r1L : View sig .tc _ _ _).emb y) = fs ((sendM.access s1L : View sig .tc _ _ _).emb y)
    rw [← emb_r1L, ← emb_s1L]
    exact congrFun (View.read_write_univ (v := rS1.view) fd (sS1.view.read (Elt F) fs)) (inL y)
  · funext y
    refine Eq.trans ?_ (congrFun hr y)
    show (rS1.view.write (Elt F) fd (sS1.view.read (Elt F) fs) Finset.univ) ((recvM.access r1Rt : View sig .tc _ _ _).emb y) = fs ((sendM.access s1Rt : View sig .tc _ _ _).emb y)
    rw [← emb_r1Rt, ← emb_s1Rt]
    exact congrFun (View.read_write_univ (v := rS1.view) fd (sS1.view.read (Elt F) fs)) (inR y)

/-- What receive slot 2 holds after the transfer of send slot 0. -/
theorem recv_of_send2 (fs : (cc0_scratch1 : Ref sig .tc).ty.Contents (Elt F)) (fd : (cc0_scratch2 : Ref sig .tc).ty.Contents (Elt F))
    {l r : Vec F S1x2048x512 .bf16} (h : SendIs 2 fs l r) :
    RecvIs 2 (rS2.view.write (Elt F) fd (sS0.view.read (Elt F) fs) Finset.univ) l r := by
  obtain ⟨hl, hr⟩ := h
  constructor
  · funext y
    refine Eq.trans ?_ (congrFun hl y)
    show (rS2.view.write (Elt F) fd (sS0.view.read (Elt F) fs) Finset.univ) ((recvM.access r2L : View sig .tc _ _ _).emb y) = fs ((sendM.access s0L : View sig .tc _ _ _).emb y)
    rw [← emb_r2L, ← emb_s0L]
    exact congrFun (View.read_write_univ (v := rS2.view) fd (sS0.view.read (Elt F) fs)) (inL y)
  · funext y
    refine Eq.trans ?_ (congrFun hr y)
    show (rS2.view.write (Elt F) fd (sS0.view.read (Elt F) fs) Finset.univ) ((recvM.access r2Rt : View sig .tc _ _ _).emb y) = fs ((sendM.access s0Rt : View sig .tc _ _ _).emb y)
    rw [← emb_r2Rt, ← emb_s0Rt]
    exact congrFun (View.read_write_univ (v := rS2.view) fd (sS0.view.read (Elt F) fs)) (inR y)

end Cert.A2A
-- ==== Proof.Rules.lean ====
/-
# One rule per step of the protocol

The facts every device keeps, and for each signal, wait, transfer and local copy of the kernel what it takes and gives.
-/
module

public import proofs.«01_k».proof.Proof.Windows

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## What every device keeps -/

/-- The invariants of one device's cells. -/
def invs1 (c : Dev nD) : sProp 𝕄 :=
  iprop(cellInv ER (Rd m) (K (barCell c)) (barCell c) ∗ reached ER (barCell c) 0 ∗ cellInv ER (Rd m) (K (exitCell c)) (exitCell c)
    ∗ bigSep Finset.univ fun j : Fin 3 => iprop(cellInv ER (Rd m) (K (sendCell c j)) (sendCell c j) ∗ cellInv ER (Rd m) (K (recvCell c j)) (recvCell c j)))
def invs : sProp 𝕄 := bigSep Finset.univ fun c : Dev nD => invs1 m K c

/-- The invariants of all cells, the levels, and that the device's own cells are open. -/
def pers (c : Dev nD) : sProp 𝕄 :=
  iprop(invs m K ∗ levAts L lv ∗ reached ER (exitCell c) 0
    ∗ bigSep Finset.univ fun j : Fin 3 => iprop(reached ER (sendCell c j) 0 ∗ reached ER (recvCell c j) 0))

instance invs1_pers (c : Dev nD) : BI.Persistent (invs1 m K c) := by unfold invs1; infer_instance
instance invs_pers : BI.Persistent (invs m K) := by unfold invs; infer_instance
instance pers_pers (c : Dev nD) : BI.Persistent (pers m K c) := by unfold pers; infer_instance

theorem sep_elim3 (Φ : Fin 3 → sProp 𝕄) (j : Fin 3) : (bigSep Finset.univ Φ : sProp 𝕄) ⊢ Φ j := bigSep_elim (Finset.mem_univ j)
theorem invs_at (d : Dev nD) : (invs m K : sProp 𝕄) ⊢ invs1 m K d := bigSep_elim (Finset.mem_univ d)

theorem pers_bar (c d : Dev nD) : pers m K c ⊢ iprop(cellInv ER (Rd m) (K (barCell d)) (barCell d) ∗ reached ER (barCell d) 0) := by
  unfold pers
  iintro ⟨HI, -⟩
  ihave H := (invs_at m K d) $$ HI
  unfold invs1
  icases H with ⟨H1, H2, -⟩
  isplitl [H1] <;> iassumption
theorem pers_exit (c d : Dev nD) : pers m K c ⊢ cellInv ER (Rd m) (K (exitCell d)) (exitCell d) := by
  unfold pers
  iintro ⟨HI, -⟩
  ihave H := (invs_at m K d) $$ HI
  unfold invs1
  icases H with ⟨-, -, H3, -⟩
  iexact H3
theorem pers_send (c d : Dev nD) (j : Fin 3) : pers m K c ⊢ cellInv ER (Rd m) (K (sendCell d j)) (sendCell d j) := by
  unfold pers
  iintro ⟨HI, -⟩
  ihave H := (invs_at m K d) $$ HI
  unfold invs1
  icases H with ⟨-, -, -, H3⟩
  ihave H := (sep_elim3 (fun j : Fin 3 => iprop(cellInv ER (Rd m) (K (sendCell d j)) (sendCell d j) ∗ cellInv ER (Rd m) (K (recvCell d j)) (recvCell d j))) j) $$ H3
  icases H with ⟨H, -⟩
  iexact H
theorem pers_recv (c d : Dev nD) (j : Fin 3) : pers m K c ⊢ cellInv ER (Rd m) (K (recvCell d j)) (recvCell d j) := by
  unfold pers
  iintro ⟨HI, -⟩
  ihave H := (invs_at m K d) $$ HI
  unfold invs1
  icases H with ⟨-, -, -, H3⟩
  ihave H := (sep_elim3 (fun j : Fin 3 => iprop(cellInv ER (Rd m) (K (sendCell d j)) (sendCell d j) ∗ cellInv ER (Rd m) (K (recvCell d j)) (recvCell d j))) j) $$ H3
  icases H with ⟨-, H⟩
  iexact H
theorem pers_lev (c : Dev nD) : pers m K c ⊢ levAts L lv := by
  unfold pers
  iintro ⟨-, H, -⟩
  iexact H
theorem pers_reach_exit (c : Dev nD) : pers m K c ⊢ reached ER (exitCell c) 0 := by
  unfold pers
  iintro ⟨-, -, H, -⟩
  iexact H
theorem pers_reach (c : Dev nD) (j : Fin 3) : pers m K c ⊢ iprop(reached ER (sendCell c j) 0 ∗ reached ER (recvCell c j) 0) := by
  unfold pers
  iintro ⟨-, -, -, H⟩
  ihave H := (sep_elim3 (fun j : Fin 3 => (iprop(reached ER (sendCell c j) 0 ∗ reached ER (recvCell c j) 0) : sProp 𝕄)) j) $$ H
  iexact H

/-! ## The barrier -/

/-- Paying peer `sr c j` its barrier unit: own receive slot `j` goes with it. -/
theorem wp_sig_bar (c n : Dev nD) (j : Fin 3) (hn : n = sr c j) (k : ℕ) (hk : payCell c k = barCell (sr c j)) (hk' : payAmt k = 1) (W : Waits sig Unit)
    {α : Type} {Q : α → sProp 𝕄} {kk : PUnit → Prog (TpuEff nD τ sig (Elt F) Λ₀ .tc) α} :
    iprop(pers m K c ∗ owes (c : Thread nD τ) (owe c (k + 1)) W ∗ dutyTok ER (barCell (sr c j)) 0 j
        ∗ (∃ f : Buf (Elt F) ((c : Thread nD τ).loc cc0_scratch2), ((c : Thread nD τ).loc cc0_scratch2) ↦[rSet j]{fullShare} f))
      ⊢ iprop((owes (c : Thread nD τ) (owe c k) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) barS (1#32 : BitVec 32).toInt) kk) Q) := by
  subst hn
  rw [show (1#32 : BitVec 32).toInt = ((1#32 : BitVec 32).toNat : Int) from rfl]
  iintro ⟨#HP, HO, Ht, Hs⟩ Hk
  ihave Hb := (pers_bar m K c (sr c j)) $$ HP
  icases Hb with ⟨#HI, #Hr⟩
  iapply (Rounds.wp_signal 𝒱₀ ER (Rd m) (c : Thread nD τ) none (dst := (sr c j : Thread nD τ)) (κ := K (barCell (sr c j)))
      (by rw [duties_bar]; exact Finset.mem_univ _) (show (Rd m).amount (barCell (sr c j)) 0 j = (1#32 : BitVec 32).toNat from amount_bar m _ _) ()
      (O₀ := owe c (k + 1)) (owe c k) (by show owe c k + tallyAt (payCell c k) () (payAmt k) = _; rw [hk, hk']; rfl)) $$ [HO Ht Hs]
  · isplitr; · iexact HI
    isplitl [HO]; · iexact HO
    isplitl [Ht]; · iexact Ht
    isplitl [Hs]
    · rw [payload_bar]; unfold gift; rw [pe_sr]
      isplitl [Hs]; · iexact Hs
      ihave H := (pers_reach m K c j) $$ HP
      icases H with ⟨-, H⟩
      isplitl [H]; · iexact H
      iapply (pers_reach_exit m K c) $$ HP
    iexact Hr
  iexact Hk

theorem wp_wait_bar (c : Dev nD) (W : Waits sig Unit)
    {α : Type} {Q : α → sProp 𝕄} {kk : PUnit → Prog (TpuEff nD τ sig (Elt F) Λ₀ .tc) α} :
    iprop(pers m K c ∗ cred (tallyAt (barCell c) () 3) ∗ owes (c : Thread nD τ) (owe c 6) W ∗ atPos ER (barCell c) 0 ∅ 0)
      ⊢ iprop(((owes (c : Thread nD τ) (owe c 6) (insert (SemLoc.reg barS, ()) W) ∗ atPos ER (barCell c) 1 ∅ 0 ∗ gift c 0 ∗ gift c 1 ∗ gift c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  rw [show (3#32 : BitVec 32).toInt = ((3#32 : BitVec 32).toNat : Int) from rfl]
  iintro ⟨#HP, Hc, HO, Hat⟩ Hk
  ihave Hb := (pers_bar m K c c) $$ HP
  icases Hb with ⟨#HI, -⟩
  iapply (Rounds.wp_wait_rest_token 𝒱₀ ER (Rd m) (c : Thread nD τ) none (κ := K (barCell c))
      (wpE_semWait_eq 𝒱₀ (c : Thread nD τ) none Set.univ) (Set.mem_univ _) () (O := owe c 6) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of (F := F) c (.reg barS) 6 (fun k hk => by
        rw [payCell_lv, if_pos hk, show lvl (.reg barS) = 1 by decide]; split <;> decide))
      iapply (pers_lev m K c) $$ HP
    iexact Hat
  rw [rest_bar]
  iintro ⟨HO, Hat, -, Hg⟩
  iapply Hk
  isplitl [HO]; · iexact HO
  isplitl [Hat]; · iexact Hat
  iexact Hg

/-! ## Sends -/

/-- The wait for a transfer to have left its send slot; -/
theorem wp_wait_send (c : Dev nD) (j : Fin 3) (n : ℕ) (s : DmaSem sig) (hs : s = sendS j) (W : Waits sig Unit)
    {sp sp' : Space} {s₁ s₂ : Shape} {e₁ e₂ : EltTy} {srcw : Memref sig .tc sp' s₂ e₂} {dstw : Memref sig .tc sp s₁ e₁}
    {hsrc : srcw.view.WordExact} {hdst : dstw.view.WordExact} (hN : dstw.view.dmaCredit = NN)
    {α : Type} {Q : α → sProp 𝕄} {kk : PUnit → Prog (TpuEff nD τ sig (Elt F) Λ₀ .tc) α} :
    iprop(pers m K c ∗ cred (tallyAt (sendCell c j) () NN) ∗ owes (c : Thread nD τ) (owe c n) W ∗ atPos ER (sendCell c j) 0 ∅ 0)
      ⊢ iprop(((owes (c : Thread nD τ) (owe c n) (insert (SemLoc.dma (sendS j), ()) W) ∗ atPos ER (sendCell c j) 1 ∅ 0 ∗ sendPay c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s srcw dstw hsrc hdst) kk) Q) := by
  subst hs
  iintro ⟨#HP, Hc, HO, Hat⟩ Hk
  ihave #HI := (pers_send m K c c j) $$ HP
  iapply (Rounds.wp_wait_rest_token 𝒱₀ ER (Rd m) (c : Thread nD τ) none (κ := K (sendCell c j)) (k' := NN)
      (fun Kk => by rw [wpE_waitDma2_eq 𝒱₀ (c : Thread nD τ) none Set.univ, hN]) (Set.mem_univ _) () (O := owe c n) (W := W) (R := 0) (m := 0) (T := ∅)
      (by rw [expect_send]; exact Nat.zero_add _)) $$ [Hc HO Hat]
  · isplitr; · iexact HI
    isplitl [Hc]; · iexact Hc
    isplitl [HO]; · iexact HO
    isplitr
    · iapply (mayWait_low (F := F) c (.dma (sendS j)) n (by revert j; decide))
      iapply (pers_lev m K c) $$ HP
    iexact Hat
  rw [rest_send]
  iintro ⟨HO, Hat, -, Hg⟩
  iapply Hk
  isplitl [HO]; · iexact HO
  isplitl [Hat]; · iexact Hat
  iexact Hg

/-- the wait for a tile of a peer. -/
theorem wp_wait_recv (c : Dev nD) (j : Fin 3) (s : DmaSem sig) (hs : s = recvS j) (W : Waits sig Unit)
    {sp sp' : Space} {s₁ s₂ : Shape} {e₁ e₂ : EltTy} {srcw : Memref sig .tc sp' s₂ e₂} {dstw : Memref sig .tc sp s₁ e₁}
    {hsrc : srcw.view.WordExact} {hdst : dstw.view.WordExact} (hN : dstw.view.dmaCredit = NN)
    {α : Type} {Q : α → sProp 𝕄} {kk : PUnit → Prog (TpuEff nD τ sig (Elt F) Λ₀ .tc) α} :
    iprop(pers m K c ∗ cred (tallyAt (recvCell c j) () NN) ∗ owes (c : Thread nD τ) (owe c 3) W ∗ atPos ER (recvCell c j) 0 ∅ 0)
      ⊢ iprop(((owes (c : Thread nD τ) (owe c 3) (insert (SemLoc.dma (recvS j), ()) W) ∗ atPos ER (recvCell c j) 1 ∅ 0 ∗ recvPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s srcw dstw hsrc hdst) kk) Q) := by
  subst hs
  iintro ⟨#HP, Hc, HO, Hat⟩ Hk
  ihave #HI := (pers_recv m K c c j) $$ HP
  iapply (Rounds.wp_wait_rest_token 𝒱₀ ER (Rd m) (c : Thread nD τ) none (κ := K (recvCell c j)) (k' := NN)
      (fun Kk => by rw [wpE_waitDma2_eq 𝒱₀ (c : Thread nD τ) none Set.univ, hN]) (Set.mem_univ _) () (O := owe c 3) (W := W) (R := 0) (m := 0) (T := ∅)
      (by rw [expect_recv]; exact Nat.zero_add _)) $$ [Hc HO Hat]
  · isplitr; · iexact HI
    isplitl [Hc]; · iexact Hc
    isplitl [HO]; · iexact HO
    isplitr
    · iapply (mayWait_of (F := F) c (.dma (recvS j)) 3 (fun k hk => by
        rw [payCell_lv, if_pos hk, show lvl (.dma (recvS j)) = 2 by revert j; decide]; decide))
      iapply (pers_lev m K c) $$ HP
    iexact Hat
  rw [rest_recv]
  iintro ⟨HO, Hat, -, Hg⟩
  iapply Hk
  isplitl [HO]; · iexact HO
  isplitl [Hat]; · iexact Hat
  iexact Hg

/-- Step 0 sends send slot 0 to receive slot 0 of its peer. -/
theorem wp_send0 (c n : Dev nD) (hn : n = pe c 0) (W : Waits sig Unit) (q1 q2 : DmaSem sig) (hq1 : q1 = sendS 0) (hq2 : q2 = recvS 0) {hsc h1 h2 h3}
    (fs : Buf (Elt F) ((c : Thread nD τ).loc cc0_scratch1)) (hfs : SendIs 0 fs (chunkL m c 0) (chunkR m c 0))
    {α : Type} {Q : α → sProp 𝕄} {kk : PUnit → Prog (TpuEff nD τ sig (Elt F) Λ₀ .tc) α} :
    iprop(pers m K c ∗ (((c : Thread nD τ).loc cc0_scratch1) ↦[sSet 0]{fullShare} fs)
        ∗ (∃ f : Buf (Elt F) ((pe c 0 : Thread nD τ).loc cc0_scratch2), ((pe c 0 : Thread nD τ).loc cc0_scratch2) ↦[rSet 0]{fullShare} f)
        ∗ owes (c : Thread nD τ) (owe c 6) W ∗ dutyTok ER (sendCell c 0) 0 0 ∗ dutyTok ER (recvCell (pe c 0) 0) 0 0 ∗ reached ER (recvCell (pe c 0) 0) 0)
      ⊢ iprop(((cred (tallyAt (sendCell c 0) () NN) ∗ owes (c : Thread nD τ) (owe c 5) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sS0 (.remote (Dev.tc n) rS0 (.dma q1) hsc) (.dma q2) h1 h2 h3) kk) Q) := by
  subst hn hq1 hq2
  iintro ⟨#HP, Hs, ⟨%fd, Hd⟩, HO, Ht1, Ht2, Hr2⟩ Hk
  ihave #HI1 := (pers_send m K c c 0) $$ HP
  ihave #HI2 := (pers_recv m K c (pe c 0) 0) $$ HP
  ihave Hr := (pers_reach m K c 0) $$ HP
  icases Hr with ⟨Hr1, -⟩
  iapply (Rounds.wp_send_pointsTo 𝒱₀ ER (Rd m) (c : Thread nD τ) none (c' := (pe c 0 : Thread nD τ)) (src := sS0) (dst := rS0)
      (κ₁ := K (sendCell c 0)) (κ₂ := K (recvCell (pe c 0) 0)) (sS := .dma (sendS 0)) (sem := .dma (recvS 0)) (r₁ := 0) (r₂ := 0) (d₁ := 0) (d₂ := 0)
      (q := fullShare) (fs := fs) (fd := fd)
      (by rw [duties_send]; exact Finset.mem_singleton_self _) (by rw [duties_recv]; exact Finset.mem_singleton_self _)
      () () NN rfl (amount_send m c 0 0) (amount_recv m (pe c 0) 0 0) (O₀ := owe c 6) (owe c 5) rfl
      (by rw [payload_send]; unfold sendPay; iintro H; iexists fs; iexact H)
      (by
        rw [payload_recv]; unfold recvPay; iintro H
        iexists (rS0.view.write (Elt F) fd (sS0.view.read (Elt F) fs) Finset.univ)
        isplitr
        · ipureintro; rw [sr_pe]; exact recv_of_send0 fs fd hfs
        iexact H)) $$ [Hs Hd HO Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- Step 1 sends send slot 1 to receive slot 1 of its peer. -/
theorem wp_send1 (c n : Dev nD) (hn : n = pe c 1) (W : Waits sig Unit) (q1 q2 : DmaSem sig) (hq1 : q1 = sendS 1) (hq2 : q2 = recvS 1) {hsc h1 h2 h3}
    (fs : Buf (Elt F) ((c : Thread nD τ).loc cc0_scratch1)) (hfs : SendIs 1 fs (chunkL m c 1) (chunkR m c 1))
    {α : Type} {Q : α → sProp 𝕄} {kk : PUnit → Prog (TpuEff nD τ sig (Elt F) Λ₀ .tc) α} :
    iprop(pers m K c ∗ (((c : Thread nD τ).loc cc0_scratch1) ↦[sSet 1]{fullShare} fs)
        ∗ (∃ f : Buf (Elt F) ((pe c 1 : Thread nD τ).loc cc0_scratch2), ((pe c 1 : Thread nD τ).loc cc0_scratch2) ↦[rSet 1]{fullShare} f)
        ∗ owes (c : Thread nD τ) (owe c 5) W ∗ dutyTok ER (sendCell c 1) 0 0 ∗ dutyTok ER (recvCell (pe c 1) 1) 0 0 ∗ reached ER (recvCell (pe c 1) 1) 0)
      ⊢ iprop(((cred (tallyAt (sendCell c 1) () NN) ∗ owes (c : Thread nD τ) (owe c 4) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sS1 (.remote (Dev.tc n) rS1 (.dma q1) hsc) (.dma q2) h1 h2 h3) kk) Q) := by
  subst hn hq1 hq2
  iintro ⟨#HP, Hs, ⟨%fd, Hd⟩, HO, Ht1, Ht2, Hr2⟩ Hk
  ihave #HI1 := (pers_send m K c c 1) $$ HP
  ihave #HI2 := (pers_recv m K c (pe c 1) 1) $$ HP
  ihave Hr := (pers_reach m K c 1) $$ HP
  icases Hr with ⟨Hr1, -⟩
  iapply (Rounds.wp_send_pointsTo 𝒱₀ ER (Rd m) (c : Thread nD τ) none (c' := (pe c 1 : Thread nD τ)) (src := sS1) (dst := rS1)
      (κ₁ := K (sendCell c 1)) (κ₂ := K (recvCell (pe c 1) 1)) (sS := .dma (sendS 1)) (sem := .dma (recvS 1)) (r₁ := 0) (r₂ := 0) (d₁ := 0) (d₂ := 0)
      (q := fullShare) (fs := fs) (fd := fd)
      (by rw [duties_send]; exact Finset.mem_singleton_self _) (by rw [duties_recv]; exact Finset.mem_singleton_self _)
      () () NN rfl (amount_send m c 1 0) (amount_recv m (pe c 1) 1 0) (O₀ := owe c 5) (owe c 4) rfl
      (by rw [payload_send]; unfold sendPay; iintro H; iexists fs; iexact H)
      (by
        rw [payload_recv]; unfold recvPay; iintro H
        iexists (rS1.view.write (Elt F) fd (sS1.view.read (Elt F) fs) Finset.univ)
        isplitr
        · ipureintro; rw [sr_pe]; exact recv_of_send1 fs fd hfs
        iexact H)) $$ [Hs Hd HO Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- Step 2 sends send slot 0 to receive slot 2 of its peer. -/
theorem wp_send2 (c n : Dev nD) (hn : n = pe c 2) (W : Waits sig Unit) (q1 q2 : DmaSem sig) (hq1 : q1 = sendS 2) (hq2 : q2 = recvS 2) {hsc h1 h2 h3}
    (fs : Buf (Elt F) ((c : Thread nD τ).loc cc0_scratch1)) (hfs : SendIs 2 fs (chunkL m c 2) (chunkR m c 2))
    {α : Type} {Q : α → sProp 𝕄} {kk : PUnit → Prog (TpuEff nD τ sig (Elt F) Λ₀ .tc) α} :
    iprop(pers m K c ∗ (((c : Thread nD τ).loc cc0_scratch1) ↦[sSet 2]{fullShare} fs)
        ∗ (∃ f : Buf (Elt F) ((pe c 2 : Thread nD τ).loc cc0_scratch2), ((pe c 2 : Thread nD τ).loc cc0_scratch2) ↦[rSet 2]{fullShare} f)
        ∗ owes (c : Thread nD τ) (owe c 4) W ∗ dutyTok ER (sendCell c 2) 0 0 ∗ dutyTok ER (recvCell (pe c 2) 2) 0 0 ∗ reached ER (recvCell (pe c 2) 2) 0)
      ⊢ iprop(((cred (tallyAt (sendCell c 2) () NN) ∗ owes (c : Thread nD τ) (owe c 3) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sS0 (.remote (Dev.tc n) rS2 (.dma q1) hsc) (.dma q2) h1 h2 h3) kk) Q) := by
  subst hn hq1 hq2
  iintro ⟨#HP, Hs, ⟨%fd, Hd⟩, HO, Ht1, Ht2, Hr2⟩ Hk
  ihave #HI1 := (pers_send m K c c 2) $$ HP
  ihave #HI2 := (pers_recv m K c (pe c 2) 2) $$ HP
  ihave Hr := (pers_reach m K c 2) $$ HP
  icases Hr with ⟨Hr1, -⟩
  iapply (Rounds.wp_send_pointsTo 𝒱₀ ER (Rd m) (c : Thread nD τ) none (c' := (pe c 2 : Thread nD τ)) (src := sS0) (dst := rS2)
      (κ₁ := K (sendCell c 2)) (κ₂ := K (recvCell (pe c 2) 2)) (sS := .dma (sendS 2)) (sem := .dma (recvS 2)) (r₁ := 0) (r₂ := 0) (d₁ := 0) (d₂ := 0)
      (q := fullShare) (fs := fs) (fd := fd)
      (by rw [duties_send]; exact Finset.mem_singleton_self _) (by rw [duties_recv]; exact Finset.mem_singleton_self _)
      () () NN rfl (amount_send m c 2 0) (amount_recv m (pe c 2) 2 0) (O₀ := owe c 4) (owe c 3) rfl
      (by rw [payload_send]; unfold sendPay; iintro H; iexists fs; iexact H)
      (by
        rw [payload_recv]; unfold recvPay; iintro H
        iexists (rS2.view.write (Elt F) fd (sS0.view.read (Elt F) fs) Finset.univ)
        isplitr
        · ipureintro; rw [sr_pe]; exact recv_of_send2 fs fd hfs
        iexact H)) $$ [Hs Hd HO Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-! ## The exit barrier -/

theorem wp_sig_exit (c n : Dev nD) (j : Fin 3) (hn : n = pe c j) (k : ℕ) (hk : payCell c k = exitCell (pe c j)) (hk' : payAmt k = 1) (W : Waits sig Unit)
    {α : Type} {Q : α → sProp 𝕄} {kk : PUnit → Prog (TpuEff nD τ sig (Elt F) Λ₀ .tc) α} :
    iprop(pers m K c ∗ owes (c : Thread nD τ) (owe c (k + 1)) W ∗ dutyTok ER (exitCell (pe c j)) 0 j ∗ reached ER (exitCell (pe c j)) 0)
      ⊢ iprop((owes (c : Thread nD τ) (owe c k) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) exitS (1#32 : BitVec 32).toInt) kk) Q) := by
  subst hn
  rw [show (1#32 : BitVec 32).toInt = ((1#32 : BitVec 32).toNat : Int) from rfl]
  iintro ⟨#HP, HO, Ht, Hr⟩ Hk
  ihave #HI := (pers_exit m K c (pe c j)) $$ HP
  iapply (Rounds.wp_signal 𝒱₀ ER (Rd m) (c : Thread nD τ) none (dst := (pe c j : Thread nD τ)) (κ := K (exitCell (pe c j)))
      (by rw [duties_exit]; exact Finset.mem_univ _) (show (Rd m).amount (exitCell (pe c j)) 0 j = (1#32 : BitVec 32).toNat from amount_exit m _ _) ()
      (O₀ := owe c (k + 1)) (owe c k) (by show owe c k + tallyAt (payCell c k) () (payAmt k) = _; rw [hk, hk']; rfl)) $$ [HO Ht Hr]
  · isplitr; · iexact HI
    isplitl [HO]; · iexact HO
    isplitl [Ht]; · iexact Ht
    isplitr
    · rw [payload_exit]; iempintro
    iexact Hr
  iexact Hk

theorem wp_wait_exit (c : Dev nD) (W : Waits sig Unit)
    {α : Type} {Q : α → sProp 𝕄} {kk : PUnit → Prog (TpuEff nD τ sig (Elt F) Λ₀ .tc) α} :
    iprop(pers m K c ∗ cred (tallyAt (exitCell c) () 3) ∗ owes (c : Thread nD τ) (owe c 0) W ∗ atPos ER (exitCell c) 0 ∅ 0)
      ⊢ iprop(((owes (c : Thread nD τ) (owe c 0) (insert (SemLoc.reg exitS, ()) W) ∗ atPos ER (exitCell c) 1 ∅ 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait exitS (3#32 : BitVec 32).toInt) kk) Q) := by
  rw [show (3#32 : BitVec 32).toInt = ((3#32 : BitVec 32).toNat : Int) from rfl]
  iintro ⟨#HP, Hc, HO, Hat⟩ Hk
  ihave #HI := (pers_exit m K c c) $$ HP
  iapply (Rounds.wp_wait_rest_token 𝒱₀ ER (Rd m) (c : Thread nD τ) none (κ := K (exitCell c))
      (wpE_semWait_eq 𝒱₀ (c : Thread nD τ) none Set.univ) (Set.mem_univ _) () (O := owe c 0) (W := W) (R := 0) (m := 0) (T := ∅)
      (by rw [expect_exit]; decide)) $$ [Hc HO Hat]
  · isplitr; · iexact HI
    isplitl [Hc]; · iexact Hc
    isplitl [HO]; · iexact HO
    isplitr
    · iapply (mayWait_of (F := F) c (.reg exitS) 0 (fun k hk => absurd hk (Nat.not_lt_zero k)))
      iapply (pers_lev m K c) $$ HP
    iexact Hat
  iintro ⟨HO, Hat, -, -⟩
  iapply Hk
  isplitl [HO]; · iexact HO
  iexact Hat

/-! ## Local copies -/

/-- The accumulator copied to a row block of the result, and the wait for it. -/
theorem wp_copy (c : Dev nD) (n : ℕ) (off : Fin 2 → ℕ) (inb : ∀ a, off a + S2048x1024.size a ≤ S8192x1024.size a) (W : Waits sig Unit)
    (s : DmaSem sig) (hs : s = locS)
    {h1 h2 h3 h4 h5} (f : Buf (Elt F) ((c : Thread nD τ).loc cc0_scratch0)) (g : Buf (Elt F) ((c : Thread nD τ).loc main_v10))
    {α : Type} {Q : α → sProp 𝕄} {kk : PUnit → Prog (TpuEff nD τ sig (Elt F) Λ₀ .tc) α} :
    iprop(pers m K c ∗ (((c : Thread nD τ).loc cc0_scratch0) ↦{fullShare} f) ∗ (((c : Thread nD τ).loc main_v10) ↦{fullShare} g)
        ∗ semVal ((c : Thread nD τ), SemLoc.dma locS) 0 ∗ owes (c : Thread nD τ) (owe c n) W)
      ⊢ iprop((((((c : Thread nD τ).loc cc0_scratch0) ↦{fullShare} f)
            ∗ (((c : Thread nD τ).loc main_v10) ↦{fullShare} ((outM.access (Rect.unit (s := S8192x1024) off S2048x1024.size inb) : View sig .tc _ _ _).write (Elt F) g f Finset.univ))
            ∗ semVal ((c : Thread nD τ), SemLoc.dma locS) 0 ∗ owes (c : Thread nD τ) (owe c n) (insert (SemLoc.dma locS, ()) W))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma accM (.here (outM.slice (Rect.unit (s := S8192x1024) off S2048x1024.size inb) (fun _ => rfl))) (.dma s) h1 h2 h3)
                fun _ => .op (.waitDma2 s accM (outM.slice (Rect.unit (s := S8192x1024) off S2048x1024.size inb) (fun _ => rfl)) h4 h5) kk) Q) := by
  subst hs
  iintro ⟨#HP, Ha, Ho, Hv, HO⟩ Hk
  iapply (Transfers.wp_dmaLocal EC 𝒱₀ (c : Thread nD τ) none (src := accM) (dst := (outM.slice (Rect.unit (s := S8192x1024) off S2048x1024.size inb) (fun _ => rfl)))
      (q := fullShare) (fs := f) (fd := g) (Sd := Finset.univ) () _ rfl (View.dmaCredit_pos _ (show 0 < S2048x1024.numel by decide)) (Finset.subset_univ _)) $$ [Ha Ho Hv]
  · isplitl [Ha]
    · simp only [Memref.view_whole, View.set_whole]; iexact Ha
    isplitl [Ho]; · iexact Ho
    iexact Hv
  iintro HF
  iapply (Transfers.wp_waitLocalO EC 𝒱₀ (c : Thread nD τ) none () rfl) $$ [HF HO]
  · isplitl [HF]; · iexact HF
    isplitl [HO]; · iexact HO
    iapply (mayWait_low (F := F) c (.dma locS) n (by decide))
    iapply (pers_lev m K c) $$ HP
  iintro ⟨⟨Ho, Ha⟩, Hv, HO⟩
  iapply Hk
  isplitl [Ha]
  · simp only [Memref.view_whole, View.set_whole]; iexact Ha
  isplitl [Ho]; · iexact Ho
  isplitl [Hv]; · iexact Hv
  iexact HO

end Cert.A2A
-- ==== Proof.Products.lean ====
/-
# The products of one grid point

The conditions the body branches on, the products of a point added to the accumulator, and the opening barrier.
-/
module

public import proofs.«01_k».proof.Proof.Rules

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## Conditions -/

theorem coords_val : ∀ t : Fin grid0.N, (grid0.coords t 0).val = t.val / 8 ∧ (grid0.coords t 1).val = t.val % 8 := by decide +kernel
theorem cond1_iff : ∀ t : Fin grid0.N, k0_cond1 (grid0.coords t) = 1#1 ↔ t.val = 0 := by decide +kernel
theorem cond6_iff : ∀ t : Fin grid0.N, k0_cond6 (grid0.coords t) = 1#1 ↔ t.val % 8 = 7 := by decide +kernel
theorem cond7_iff : ∀ t : Fin grid0.N, k0_cond7 (grid0.coords t) = 1#1 ↔ t.val / 8 = 0 := by decide +kernel
theorem cond8_iff : ∀ t : Fin grid0.N, k0_cond8 (grid0.coords t) = 1#1 ↔ t.val / 8 = 1 := by decide +kernel
theorem cond9_iff : ∀ t : Fin grid0.N, k0_cond9 (grid0.coords t) = 1#1 ↔ t.val / 8 = 2 := by decide +kernel
theorem cond10_iff : ∀ t : Fin grid0.N, k0_cond10 (grid0.coords t) = 1#1 ↔ t.val / 8 = 3 := by decide +kernel
/-- Whether a point opens a new sum. -/
theorem first_iff : ∀ t : Fin grid0.N,
    Scalar.cmpi .ne (Scalar.extui (Scalar.cmpi .eq (BitVec.ofNat 32 (grid0.coords t 1).val) 0#32) : BitVec 32) 0#32 = 1#1 ↔ t.val % 8 = 0 := by decide +kernel
theorem later_iff : ∀ t : Fin grid0.N,
    Scalar.cmpi .ne (Scalar.extui (Scalar.cmpi .ne (BitVec.ofNat 32 (grid0.coords t 1).val) 0#32) : BitVec 32) 0#32 = 1#1 ↔ t.val % 8 ≠ 0 := by decide +kernel

theorem accL_first (c : Dev nD) (n : ℕ) (h : n % 8 = 0) : accL m c n = k0_pay17 (Xb m c n) (WbL m c n) := by
  cases n with
  | zero => rfl
  | succ n => exact if_pos h
theorem accR_first (c : Dev nD) (n : ℕ) (h : n % 8 = 0) : accR m c n = k0_pay20 (Xb m c n) (WbR m c n) := by
  cases n with
  | zero => rfl
  | succ n => exact if_pos h
theorem accL_later (c : Dev nD) (n : ℕ) (h : n % 8 ≠ 0) : accL m c n = k0_pay18 (Xb m c n) (WbL m c n) (accL m c (n - 1)) := by
  cases n with
  | zero => exact absurd rfl h
  | succ n => exact if_neg h
theorem accR_later (c : Dev nD) (n : ℕ) (h : n % 8 ≠ 0) : accR m c n = k0_pay21 (Xb m c n) (WbR m c n) (accR m c (n - 1)) := by
  cases n with
  | zero => exact absurd rfl h
  | succ n => exact if_neg h

/-! ## Reads of the blocks -/

abbrev xAll : Rect S2048x1024 := Rect.unit (s := S2048x1024) ![0, 0] S2048x1024.size inb_S2048x1024_S2048x1024_0_0

theorem xAll_emb (x : (S2048x1024).Idx) : xAll.emb x = x := by
  funext a; apply Fin.ext
  rw [Rect.emb_apply]
  fin_cases a
  · show 0 + 1 * (x 0).val = (x 0).val; omega
  · show 0 + 1 * (x 1).val = (x 1).val; omega

theorem read_all {sp : Space} (M : Memref sig .tc sp S2048x1024 .f32) (f : M.view.ty.Contents (Elt F)) (X : Vec F S2048x1024 .f32) (h : M.view.read (Elt F) f = X) :
    (M.access xAll : View sig .tc _ _ _).read (Elt F) f = X := by
  funext x
  show M.view.read (Elt F) f (xAll.emb x) = X x
  rw [xAll_emb, h]
theorem read_sub {sp : Space} (M : Memref sig .tc sp S1024x1024 .f32) (f : M.view.ty.Contents (Elt F)) (X : Vec F S1024x1024 .f32) (h : M.view.read (Elt F) f = X)
    (r : Rect S1024x1024) : (M.access r : View sig .tc _ _ _).read (Elt F) f = fun i => X (r.emb i) := by
  funext x
  show M.view.read (Elt F) f (r.emb x) = X (r.emb x)
  rw [h]

abbrev v2w (c : Dev nD) : BitVec 32 := Scalar.remsi (Scalar.divsi (Dev.word c) 1#32) 4#32
abbrev k0w (t : Fin grid0.N) : BitVec 32 := BitVec.ofNat 32 (grid0.coords t 0).val
abbrev k1w (t : Fin grid0.N) : BitVec 32 := BitVec.ofNat 32 (grid0.coords t 1).val

/-- The accumulator with the sums of point `n` in it. -/
def accAt (c : Dev nD) (n : ℕ) : sProp 𝕄 :=
  iprop(∃ f : Buf (Elt F) ((c : Thread nD τ).loc cc0_scratch0), ⌜AccIs f (accL m c n) (accR m c n)⌝ ∗ (((c : Thread nD τ).loc cc0_scratch0) ↦{fullShare} f))
def accAny (c : Dev nD) : sProp 𝕄 :=
  iprop(∃ f : Buf (Elt F) ((c : Thread nD τ).loc cc0_scratch0), (((c : Thread nD τ).loc cc0_scratch0) ↦{fullShare} f))
theorem accAt_any (c : Dev nD) (n : ℕ) : accAt m c n ⊢ accAny (F := F) c := by
  unfold accAt accAny
  iintro ⟨%f, -, H⟩
  iexists f; iexact H

section Part8

variable (arg3 : Memref sig .tc .vmem S2048x1024 .f32) (harg3 : arg3.IsWhole) (arg4 : Memref sig .tc .vmem S1024x1024 .f32) (harg4 : arg4.IsWhole)

/-- The blocks of a point in their staging buffers. -/
abbrev blocks (c : Dev nD) (n : ℕ) : sProp 𝕄 :=
  iprop(owns (c : Thread nD τ) arg3 fullShare (Xb m c n) ∗ owns (c : Thread nD τ) arg4 fullShare (Wb m c n))

abbrev part8At (t : Fin grid0.N) := k0_part8 (F := F) (grid0.coords t) tblM (Memref.isWhole_whole _) arg3 harg3 arg4 harg4 outM (Memref.isWhole_whole _) accM (Memref.isWhole_whole _)
  sendM (Memref.isWhole_whole _) recvM (Memref.isWhole_whole _) cc0_scratch3 cc0_scratch4 cc0_scratch5 cc0_scoped0

theorem acc_two (f : (cc0_scratch0 : Ref sig .tc).ty.Contents (Elt F)) (l r : Vec F S2048x512 .f32) :
    AccIs ((accM.access aR : View sig .tc _ _ _).write (Elt F) ((accM.access aL : View sig .tc _ _ _).write (Elt F) f l Finset.univ) r Finset.univ) l r :=
  AccIs.storeR (L := l) (R := (accM.access aR : View sig .tc _ _ _).read (Elt F) ((accM.access aL : View sig .tc _ _ _).write (Elt F) f l Finset.univ))
    ⟨View.read_write_univ _ _, rfl⟩ r

set_option maxHeartbeats 4000000 in
/-- A point that opens a sum. -/
theorem wp_part8_first (c : Dev nD) (t : Fin grid0.N) (ht : t.val ≠ 0) (h0 : t.val % 8 = 0) {Q} :
    iprop(blocks m arg3 arg4 c t.val ∗ accAny (F := F) c)
      ⊢ iprop((iprop(blocks m arg3 arg4 c t.val ∗ accAt m c t.val) -∗ Q ⟨k0w t, k1w t, c, v2w c⟩)
        -∗ wp frame (wpE (defs₀ (F := F)) 𝒱₀ (c : Thread nD τ) none) Set.univ (part8At arg3 harg3 arg4 harg4 t) Q) := by
  simp only [part8At, k0_part8_eq_skeleton]; unfold k0_part8_skel
  simp only [dif_neg (fun h => ht ((cond1_iff t).mp h)), dif_pos ((first_iff t).mpr h0), dif_neg (fun h => (later_iff t).mp h h0), semSignalWord, semWaitWord, Prog.lift, Prog.bind_op, Prog.bind_ret, Prog.pure_eq_ret, Prog.bind_assoc, wp_deviceId]
  unfold accAny accAt blocks owns
  iintro ⟨⟨⟨%fx, %hx, Hx⟩, ⟨%fw, %hw, Hw⟩⟩, ⟨%f, Ha⟩⟩ Hk
  iapply (wp_load_rect 𝒱₀ (c : Thread nD τ) none Set.univ (m := arg3) (r := xAll) (View.set_slice_subset _ _)) $$ Hx; iintro Hx
  iapply (wp_load_rect 𝒱₀ (c : Thread nD τ) none Set.univ (m := arg4) (r := wL) (View.set_slice_subset _ _)) $$ Hw; iintro Hw
  rw [read_all arg3 fx _ hx, read_sub arg4 fw _ hw wL]
  iapply (wp_load_rect 𝒱₀ (c : Thread nD τ) none Set.univ (m := accM) (r := aL) (Finset.subset_univ _)) $$ Ha; iintro Ha
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := arg4) (r := wR) (View.set_slice_subset _ _)) $$ Hw; iintro Hw
  rw [read_sub arg4 fw _ hw wR]
  iapply (wp_load_rect 𝒱₀ (c : Thread nD τ) none Set.univ (m := accM) (r := aR) (Finset.subset_univ _)) $$ Ha; iintro Ha
  iapply (wp_store 𝒱₀ (c : Thread nD τ) none Set.univ (m := accM) (r := aR) (Mk := Finset.univ) (Finset.subset_univ _)) $$ Ha; iintro Ha
  rw [wp_ret]; imodintro
  iapply Hk
  isplitl [Hx Hw]
  · isplitl [Hx]
    · iexists fx; isplitr; · (ipureintro; exact hx)
      iexact Hx
    iexists fw; isplitr; · (ipureintro; exact hw)
    iexact Hw
  iexists _
  isplitr
  · ipureintro
    show AccIs _ (accL m c t.val) (accR m c t.val)
    rw [accL_first m c t.val h0, accR_first m c t.val h0]
    exact acc_two f _ _
  iexact Ha

set_option maxHeartbeats 4000000 in
/-- A point that adds to the sum. -/
theorem wp_part8_later (c : Dev nD) (t : Fin grid0.N) (h0 : t.val % 8 ≠ 0) {Q} :
    iprop(blocks m arg3 arg4 c t.val ∗ accAt m c (t.val - 1))
      ⊢ iprop((iprop(blocks m arg3 arg4 c t.val ∗ accAt m c t.val) -∗ Q ⟨k0w t, k1w t, c, v2w c⟩)
        -∗ wp frame (wpE (defs₀ (F := F)) 𝒱₀ (c : Thread nD τ) none) Set.univ (part8At arg3 harg3 arg4 harg4 t) Q) := by
  simp only [part8At, k0_part8_eq_skeleton]; unfold k0_part8_skel
  simp only [dif_neg (fun h => h0 (by rw [(cond1_iff t).mp h])), dif_neg (fun h => h0 ((first_iff t).mp h)), dif_pos ((later_iff t).mpr h0), semSignalWord, semWaitWord, Prog.lift, Prog.bind_op, Prog.bind_ret, Prog.pure_eq_ret, Prog.bind_assoc, wp_deviceId]
  unfold accAt blocks owns
  iintro ⟨⟨⟨%fx, %hx, Hx⟩, ⟨%fw, %hw, Hw⟩⟩, ⟨%f, %hf, Ha⟩⟩ Hk
  iapply (wp_load_rect 𝒱₀ (c : Thread nD τ) none Set.univ (m := arg3) (r := xAll) (View.set_slice_subset _ _)) $$ Hx; iintro Hx
  iapply (wp_load_rect 𝒱₀ (c : Thread nD τ) none Set.univ (m := arg4) (r := wL) (View.set_slice_subset _ _)) $$ Hw; iintro Hw
  rw [read_all arg3 fx _ hx, read_sub arg4 fw _ hw wL]
  iapply (wp_load_rect 𝒱₀ (c : Thread nD τ) none Set.univ (m := accM) (r := aL) (Finset.subset_univ _)) $$ Ha; iintro Ha
  iapply (wp_load_rect 𝒱₀ (c : Thread nD τ) none Set.univ (m := accM) (r := aL) (Finset.subset_univ _)) $$ Ha; iintro Ha
  rw [hf.1]
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := arg4) (r := wR) (View.set_slice_subset _ _)) $$ Hw; iintro Hw
  rw [read_sub arg4 fw _ hw wR]
  iapply (wp_load_rect 𝒱₀ (c : Thread nD τ) none Set.univ (m := accM) (r := aR) (Finset.subset_univ _)) $$ Ha; iintro Ha
  iapply (wp_load_rect 𝒱₀ (c : Thread nD τ) none Set.univ (m := accM) (r := aR) (Finset.subset_univ _)) $$ Ha; iintro Ha
  rw [(hf.storeL _).2]
  iapply (wp_store 𝒱₀ (c : Thread nD τ) none Set.univ (m := accM) (r := aR) (Mk := Finset.univ) (Finset.subset_univ _)) $$ Ha; iintro Ha
  rw [wp_ret]; imodintro
  iapply Hk
  isplitl [Hx Hw]
  · isplitl [Hx]
    · iexists fx; isplitr; · (ipureintro; exact hx)
      iexact Hx
    iexists fw; isplitr; · (ipureintro; exact hw)
    iexact Hw
  iexists _
  isplitr
  · ipureintro
    show AccIs _ (accL m c t.val) (accR m c t.val)
    rw [accL_later m c t.val h0, accR_later m c t.val h0]
    exact (hf.storeL _).storeR _
  iexact Ha

/-- What the first point takes: the credit of the opening barrier, the duties of the peers' barriers and the receive slots to give away. -/
def barHold (c : Dev nD) : sProp 𝕄 :=
  iprop(cred (tallyAt (barCell c) () 3) ∗ atPos ER (barCell c) 0 ∅ 0
    ∗ (dutyTok ER (barCell (sr c 0)) 0 0 ∗ ∃ f : Buf (Elt F) ((c : Thread nD τ).loc cc0_scratch2), ((c : Thread nD τ).loc cc0_scratch2) ↦[rSet 0]{fullShare} f)
    ∗ (dutyTok ER (barCell (sr c 1)) 0 1 ∗ ∃ f : Buf (Elt F) ((c : Thread nD τ).loc cc0_scratch2), ((c : Thread nD τ).loc cc0_scratch2) ↦[rSet 1]{fullShare} f)
    ∗ (dutyTok ER (barCell (sr c 2)) 0 2 ∗ ∃ f : Buf (Elt F) ((c : Thread nD τ).loc cc0_scratch2), ((c : Thread nD τ).loc cc0_scratch2) ↦[rSet 2]{fullShare} f))

theorem dev1_eq (c : Dev nD) (i) (h) : (⟨k0_dev1 c, k0_dev1_lt i c h⟩ : Dev nD) = sr c 2 := by
  apply Fin.ext; show k0_dev1 c = (sr c 2).val; revert c; decide
theorem dev2_eq (c : Dev nD) (i) (h) : (⟨k0_dev2 c, k0_dev2_lt i c h⟩ : Dev nD) = sr c 1 := by
  apply Fin.ext; show k0_dev2 c = (sr c 1).val; revert c; decide
theorem dev3_eq (c : Dev nD) (i) (h) : (⟨k0_dev3 c, k0_dev3_lt i c h⟩ : Dev nD) = sr c 0 := by
  apply Fin.ext; show k0_dev3 c = (sr c 0).val; revert c; decide

set_option maxHeartbeats 4000000 in
/-- The first point: the barrier, then the first products. -/
theorem wp_part8_zero (c : Dev nD) (t : Fin grid0.N) (ht : t.val = 0) (W : Waits sig Unit) {Q} :
    iprop(pers m K c ∗ barHold (F := F) c ∗ owes (c : Thread nD τ) (owe c 9) W ∗ blocks m arg3 arg4 c t.val ∗ accAny (F := F) c)
      ⊢ iprop((iprop((atPos ER (barCell c) 1 ∅ 0 ∗ gift c 0 ∗ gift c 1 ∗ gift c 2) ∗ owes (c : Thread nD τ) (owe c 6) (insert (SemLoc.reg barS, ()) W)
            ∗ blocks m arg3 arg4 c t.val ∗ accAt m c t.val) -∗ Q ⟨k0w t, k1w t, c, v2w c⟩)
        -∗ wp frame (wpE (defs₀ (F := F)) 𝒱₀ (c : Thread nD τ) none) Set.univ (part8At arg3 harg3 arg4 harg4 t) Q) := by
  have h0 : t.val % 8 = 0 := by rw [ht]
  simp only [part8At, k0_part8_eq_skeleton]; unfold k0_part8_skel
  simp only [dif_pos ((cond1_iff t).mpr ht), dif_pos ((first_iff t).mpr h0), dif_neg (fun h => (later_iff t).mp h h0), k0_part1_eq_skeleton, k0_part1_skel, semSignalWord, semWaitWord, Prog.lift, Prog.bind_op, Prog.bind_ret, Prog.pure_eq_ret, Prog.bind_assoc, wp_deviceId]
  unfold barHold accAny accAt blocks owns
  iintro ⟨#HP, ⟨Hc, Hat, ⟨Ht0, Hr0⟩, ⟨Ht1, Hr1⟩, ⟨Ht2, Hr2⟩⟩, HO, ⟨⟨%fx, %hx, Hx⟩, ⟨%fw, %hw, Hw⟩⟩, ⟨%f, Ha⟩⟩ Hk
  iapply (wp_sig_bar m K c _ 2 (dev1_eq c (grid0.coords t) ((cond1_iff t).mpr ht)) 8 rfl rfl W) $$ [HO Ht2 Hr2]
  · isplitr; · iexact HP
    isplitl [HO]; · iexact HO
    isplitl [Ht2] <;> iassumption
  iintro HO
  iapply (wp_sig_bar m K c _ 1 (dev2_eq c (grid0.coords t) ((cond1_iff t).mpr ht)) 7 rfl rfl W) $$ [HO Ht1 Hr1]
  · isplitr; · iexact HP
    isplitl [HO]; · iexact HO
    isplitl [Ht1] <;> iassumption
  iintro HO
  iapply (wp_sig_bar m K c _ 0 (dev3_eq c (grid0.coords t) ((cond1_iff t).mpr ht)) 6 rfl rfl W) $$ [HO Ht0 Hr0]
  · isplitr; · iexact HP
    isplitl [HO]; · iexact HO
    isplitl [Ht0] <;> iassumption
  iintro HO
  iapply (wp_wait_bar m K c W) $$ [Hc HO Hat]
  · isplitr; · iexact HP
    isplitl [Hc]; · iexact Hc
    isplitl [HO] <;> iassumption
  iintro ⟨HO, Hg⟩
  iapply (wp_load_rect 𝒱₀ (c : Thread nD τ) none Set.univ (m := arg3) (r := xAll) (View.set_slice_subset _ _)) $$ Hx; iintro Hx
  iapply (wp_load_rect 𝒱₀ (c : Thread nD τ) none Set.univ (m := arg4) (r := wL) (View.set_slice_subset _ _)) $$ Hw; iintro Hw
  rw [read_all arg3 fx _ hx, read_sub arg4 fw _ hw wL]
  iapply (wp_load_rect 𝒱₀ (c : Thread nD τ) none Set.univ (m := accM) (r := aL) (Finset.subset_univ _)) $$ Ha; iintro Ha
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := arg4) (r := wR) (View.set_slice_subset _ _)) $$ Hw; iintro Hw
  rw [read_sub arg4 fw _ hw wR]
  iapply (wp_load_rect 𝒱₀ (c : Thread nD τ) none Set.univ (m := accM) (r := aR) (Finset.subset_univ _)) $$ Ha; iintro Ha
  iapply (wp_store 𝒱₀ (c : Thread nD τ) none Set.univ (m := accM) (r := aR) (Mk := Finset.univ) (Finset.subset_univ _)) $$ Ha; iintro Ha
  rw [wp_ret]; imodintro
  iapply Hk
  isplitl [Hg]; · iexact Hg
  isplitl [HO]; · iexact HO
  isplitl [Hx Hw]
  · isplitl [Hx]
    · iexists fx; isplitr; · (ipureintro; exact hx)
      iexact Hx
    iexists fw; isplitr; · (ipureintro; exact hw)
    iexact Hw
  iexists _
  isplitr
  · ipureintro
    show AccIs _ (accL m c t.val) (accR m c t.val)
    rw [accL_first m c t.val h0, accR_first m c t.val h0]
    exact acc_two f _ _
  iexact Ha

end Part8

end Cert.A2A
-- ==== Proof.Tails.lean ====
/-
# The bodies of the points

What a point does with its tile once the sum is complete: the activation, then the send of steps 0, 1, 2, or the
gathering of the last step.
-/
module

public import proofs.«01_k».proof.Proof.Products

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

section Bodies

variable (arg3 : Memref sig .tc .vmem S2048x1024 .f32) (harg3 : arg3.IsWhole) (arg4 : Memref sig .tc .vmem S1024x1024 .f32) (harg4 : arg4.IsWhole)

/-- The body at a point. -/
abbrev bodyAt (t : Fin grid0.N) := cc0_body (F := F) (grid0.coords t) tblM (Memref.isWhole_whole _) arg3 harg3 arg4 harg4 outM (Memref.isWhole_whole _) accM (Memref.isWhole_whole _)
  sendM (Memref.isWhole_whole _) recvM (Memref.isWhole_whole _) cc0_scratch3 cc0_scratch4 cc0_scratch5 cc0_scoped0

/-- The table in scalar memory. -/
abbrev tblAt (c : Dev nD) : sProp 𝕄 := iprop(((c : Thread nD τ).loc main_v9) ↦{fullShare} (tblv c : (main_v9 : Ref sig .tc).ty.Contents (Elt F)))
/-- The tokens of send `j`. -/
def tok (c : Dev nD) (j : Fin 3) : sProp 𝕄 := iprop(dutyTok ER (sendCell c j) 0 0 ∗ dutyTok ER (recvCell (pe c j) j) 0 0)

theorem tbl_read (c : Dev nD) (j : ℕ) (h) (x : S1.Idx) :
    ((tblM.access (Rect.unit (s := S4) ![j] S1.size h)) : View sig .tc _ _ _).read (Elt F) (tblv c : (main_v9 : Ref sig .tc).ty.Contents (Elt F)) x
      = (BitVec.ofNat 32 ((c.val + 1 + j) % 4) : BitVec 32) := by
  have hx : (x 0).val = 0 := by have : (x 0).val < 1 := (x 0).isLt; omega
  show (BitVec.ofNat 32 ((c.val + 1 + (j + 1 * (x 0).val)) % 4) : BitVec 32) = _
  rw [hx]; rfl

theorem chk1_ok (c : Dev nD) (i : grid0.Coords) : k0_chk1 i (BitVec.ofNat 32 ((c.val + 1 + 0) % 4)) := fun _ _ => by revert c; decide
theorem chk2_ok (c : Dev nD) (i : grid0.Coords) : k0_chk2 i (BitVec.ofNat 32 ((c.val + 1 + 1) % 4)) := fun _ _ => by revert c; decide
theorem chk3_ok (c : Dev nD) (i : grid0.Coords) : k0_chk3 i (BitVec.ofNat 32 ((c.val + 1 + 2) % 4)) := fun _ _ => by revert c; decide
theorem dev4_val : ∀ c : Dev nD, k0_dev4 (BitVec.ofNat 32 ((c.val + 1 + 0) % 4)) = (pe c 0).val := by decide
theorem dev5_val : ∀ c : Dev nD, k0_dev5 (BitVec.ofNat 32 ((c.val + 1 + 1) % 4)) = (pe c 1).val := by decide
theorem dev6_val : ∀ c : Dev nD, k0_dev6 (BitVec.ofNat 32 ((c.val + 1 + 2) % 4)) = (pe c 2).val := by decide
theorem dev7_val : ∀ c : Dev nD, k0_dev7 c = (pe c 0).val := by decide
theorem dev8_val : ∀ c : Dev nD, k0_dev8 c = (pe c 1).val := by decide
theorem dev9_val : ∀ c : Dev nD, k0_dev9 c = (pe c 2).val := by decide

theorem acc_tile (c : Dev nD) (s : ℕ) (t : Fin grid0.N) (ht : t.val = 8 * s + 7) (f : (cc0_scratch0 : Ref sig .tc).ty.Contents (Elt F))
    (hf : AccIs f (accL m c t.val) (accR m c t.val)) :
    AccIs ((accM.access aR : View sig .tc _ _ _).write (Elt F) ((accM.access aL : View sig .tc _ _ _).write (Elt F) f (k0_pay1 (accL m c t.val)) Finset.univ) (k0_pay2 (accR m c t.val)) Finset.univ)
      (tileL m c s) (tileR m c s) := by
  have h := (hf.storeL (k0_pay1 (accL m c t.val))).storeR (k0_pay2 (accR m c t.val))
  unfold tileL tileR; rw [← ht]; exact h

set_option maxHeartbeats 4000000 in
/-- A point inside a sum. -/
theorem wp_body_mid (c : Dev nD) (t : Fin grid0.N) (h0 : t.val % 8 ≠ 0) (h7 : t.val % 8 ≠ 7) {Q} :
    iprop(blocks m arg3 arg4 c t.val ∗ accAt m c (t.val - 1))
      ⊢ iprop((iprop(blocks m arg3 arg4 c t.val ∗ accAt m c t.val) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_neg (fun h => h7 ((cond6_iff t).mp h)), semSignalWord, semWaitWord, smemLoad, smemLoadElt, Prog.lift, Prog.bind_op, Prog.bind_ret, Prog.pure_eq_ret, Prog.bind_assoc]
  rw [wp_bind]
  iintro HB Hk
  iapply (wp_part8_later m arg3 harg3 arg4 harg4 c t h0) $$ HB
  iintro HB

  rw [wp_ret]; imodintro
  iapply Hk
  iexact HB

set_option maxHeartbeats 4000000 in
/-- A point that opens a sum. -/
theorem wp_body_first (c : Dev nD) (t : Fin grid0.N) (ht : t.val ≠ 0) (h0 : t.val % 8 = 0) {Q} :
    iprop(blocks m arg3 arg4 c t.val ∗ accAny (F := F) c)
      ⊢ iprop((iprop(blocks m arg3 arg4 c t.val ∗ accAt m c t.val) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_neg (fun h => absurd (h0.symm.trans ((cond6_iff t).mp h)) (by decide)), semSignalWord, semWaitWord, smemLoad, smemLoadElt, Prog.lift, Prog.bind_op, Prog.bind_ret, Prog.pure_eq_ret, Prog.bind_assoc]
  rw [wp_bind]
  iintro HB Hk
  iapply (wp_part8_first m arg3 harg3 arg4 harg4 c t ht h0) $$ HB
  iintro HB

  rw [wp_ret]; imodintro
  iapply Hk
  iexact HB

set_option maxHeartbeats 4000000 in
/-- The first point. -/
theorem wp_body_zero (c : Dev nD) (t : Fin grid0.N) (ht : t.val = 0) (W : Waits sig Unit) {Q} :
    iprop(pers m K c ∗ barHold (F := F) c ∗ owes (c : Thread nD τ) (owe c 9) W ∗ blocks m arg3 arg4 c t.val ∗ accAny (F := F) c)
      ⊢ iprop((iprop((atPos ER (barCell c) 1 ∅ 0 ∗ gift c 0 ∗ gift c 1 ∗ gift c 2) ∗ owes (c : Thread nD τ) (owe c 6) (insert (SemLoc.reg barS, ()) W)
            ∗ blocks m arg3 arg4 c t.val ∗ accAt m c t.val) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_neg (fun h => absurd ((congrArg (· % 8) ht).symm.trans ((cond6_iff t).mp h)) (by decide)), semSignalWord, semWaitWord, smemLoad, smemLoadElt, Prog.lift, Prog.bind_op, Prog.bind_ret, Prog.pure_eq_ret, Prog.bind_assoc]
  rw [wp_bind]
  iintro HB Hk
  iapply (wp_part8_zero m K arg3 harg3 arg4 harg4 c t ht W) $$ HB
  iintro HB

  rw [wp_ret]; imodintro
  iapply Hk
  iexact HB

set_option maxHeartbeats 8000000 in
/-- The end of step 0: the tile goes to the device it was computed for. -/
theorem wp_body_send0 (c : Dev nD) (t : Fin grid0.N) (h6 : t.val % 8 = 7) (hs : t.val / 8 = 0) (W : Waits sig Unit) {Q} :
    iprop(pers m K c ∗ tblAt (F := F) c ∗ blocks m arg3 arg4 c t.val ∗ accAt m c (t.val - 1) ∗ owes (c : Thread nD τ) (owe c 6) W ∗ gift (F := F) c 0 ∗ tok (F := F) c 0 ∗ sendPay (F := F) c 0)
      ⊢ iprop((iprop(tblAt (F := F) c ∗ blocks m arg3 arg4 c t.val ∗ accAny (F := F) c ∗ owes (c : Thread nD τ) (owe c 5) W ∗ reached ER (exitCell (pe c 0)) 0 ∗ cred (tallyAt (sendCell c 0) () NN)) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_pos ((cond6_iff t).mpr h6), dif_pos ((cond7_iff t).mpr hs), dif_neg (fun h => absurd (hs.symm.trans ((cond8_iff t).mp h)) (by decide)), dif_neg (fun h => absurd (hs.symm.trans ((cond9_iff t).mp h)) (by decide)), dif_neg (fun h => absurd (hs.symm.trans ((cond10_iff t).mp h)) (by decide)), semSignalWord, semWaitWord, smemLoad, smemLoadElt, Prog.lift, Prog.bind_op, Prog.bind_ret, Prog.pure_eq_ret, Prog.bind_assoc]
  rw [wp_bind]
  iintro ⟨#HP, Ht, HB, HA, HO, Hg, Htk, Hs⟩ Hk
  iapply (wp_part8_later m arg3 harg3 arg4 harg4 c t (by rw [h6]; decide)) $$ [HB HA]
  · isplitl [HB] <;> iassumption
  iintro ⟨HB, HA⟩

  unfold accAt gift tok sendPay
  icases HA with ⟨%f, %hf, Ha⟩
  icases Hs with ⟨%fs, Hs⟩
  icases Hg with ⟨Hr, Hr1, Hr2⟩
  icases Htk with ⟨Ht1, Ht2⟩
  iapply (wp_load_rect 𝒱₀ (c : Thread nD τ) none Set.univ (m := accM) (r := aL) (Finset.subset_univ _)) $$ Ha; iintro Ha
  iapply (wp_load_rect 𝒱₀ (c : Thread nD τ) none Set.univ (m := accM) (r := aL) (Finset.subset_univ _)) $$ Ha; iintro Ha
  rw [hf.1]
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := accM) (r := aR) (Finset.subset_univ _)) $$ Ha; iintro Ha
  iapply (wp_load_rect 𝒱₀ (c : Thread nD τ) none Set.univ (m := accM) (r := aR) (Finset.subset_univ _)) $$ Ha; iintro Ha
  rw [(hf.storeL _).2]
  iapply (wp_store 𝒱₀ (c : Thread nD τ) none Set.univ (m := accM) (r := aR) (Mk := Finset.univ) (Finset.subset_univ _)) $$ Ha; iintro Ha
  have hg := acc_tile m c 0 t (by omega) f hf
  iapply (wp_load_rect 𝒱₀ (c : Thread nD τ) none Set.univ (m := accM) (r := aL) (Finset.subset_univ _)) $$ Ha; iintro Ha
  rw [hg.1]
  iapply (wp_load_rect 𝒱₀ (c : Thread nD τ) none Set.univ (m := sendM) (r := s0L) (sub_of_rect_s (j := 0) rfl)) $$ Hs; iintro Hs
  iapply (wp_store 𝒱₀ (c : Thread nD τ) none Set.univ (m := sendM) (r := s0L) (Mk := Finset.univ) (sub_of_rect_s (j := 0) rfl)) $$ Hs; iintro Hs
  iapply (wp_load_rect 𝒱₀ (c : Thread nD τ) none Set.univ (m := accM) (r := aR) (Finset.subset_univ _)) $$ Ha; iintro Ha
  rw [hg.2]
  iapply (wp_load_rect 𝒱₀ (c : Thread nD τ) none Set.univ (m := sendM) (r := s0Rt) (sub_of_rect_s (j := 0) rfl)) $$ Hs; iintro Hs
  iapply (wp_store 𝒱₀ (c : Thread nD τ) none Set.univ (m := sendM) (r := s0Rt) (Mk := Finset.univ) (sub_of_rect_s (j := 0) rfl)) $$ Hs; iintro Hs
  iapply (wp_load_rect 𝒱₀ (c : Thread nD τ) none Set.univ (m := tblM) (r := (Rect.unit (s := S4) ![0] S1.size inb_S4_S1_0)) (Finset.subset_univ _)) $$ Ht; iintro Ht
  rw [tbl_read c 0 _ _]
  simp only [wp_assume_of _ _ _ _ (d := k0_chk1.dec _ _) (chk1_ok c (grid0.coords t))]
  iapply (wp_send0 m K c _ (Fin.ext (dev4_val c)) W _ _ rfl rfl _ (send_store0 0 rfl _ _ _)) $$ [Hs Hr HO Ht1 Ht2 Hr1]
  · isplitr; · iexact HP
    isplitl [Hs]; · iexact Hs
    isplitl [Hr]; · iexact Hr
    isplitl [HO]; · iexact HO
    isplitl [Ht1]; · iexact Ht1
    isplitl [Ht2] <;> iassumption
  iintro ⟨Hc, HO⟩
  rw [wp_ret]; imodintro
  iapply Hk
  isplitl [Ht]; · iexact Ht
  isplitl [HB]; · iexact HB
  isplitl [Ha]; · (unfold accAny; iexists _; iexact Ha)
  isplitl [HO]; · iexact HO
  isplitl [Hr2] <;> iassumption

set_option maxHeartbeats 8000000 in
/-- The end of step 1: the tile goes to the device it was computed for. -/
theorem wp_body_send1 (c : Dev nD) (t : Fin grid0.N) (h6 : t.val % 8 = 7) (hs : t.val / 8 = 1) (W : Waits sig Unit) {Q} :
    iprop(pers m K c ∗ tblAt (F := F) c ∗ blocks m arg3 arg4 c t.val ∗ accAt m c (t.val - 1) ∗ owes (c : Thread nD τ) (owe c 5) W ∗ gift (F := F) c 1 ∗ tok (F := F) c 1 ∗ sendPay (F := F) c 1)
      ⊢ iprop((iprop(tblAt (F := F) c ∗ blocks m arg3 arg4 c t.val ∗ accAny (F := F) c ∗ owes (c : Thread nD τ) (owe c 4) W ∗ reached ER (exitCell (pe c 1)) 0 ∗ cred (tallyAt (sendCell c 1) () NN)) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_pos ((cond6_iff t).mpr h6), dif_neg (fun h => absurd (hs.symm.trans ((cond7_iff t).mp h)) (by decide)), dif_pos ((cond8_iff t).mpr hs), dif_neg (fun h => absurd (hs.symm.trans ((cond9_iff t).mp h)) (by decide)), dif_neg (fun h => absurd (hs.symm.trans ((cond10_iff t).mp h)) (by decide)), semSignalWord, semWaitWord, smemLoad, smemLoadElt, Prog.lift, Prog.bind_op, Prog.bind_ret, Prog.pure_eq_ret, Prog.bind_assoc]
  rw [wp_bind]
  iintro ⟨#HP, Ht, HB, HA, HO, Hg, Htk, Hs⟩ Hk
  iapply (wp_part8_later m arg3 harg3 arg4 harg4 c t (by rw [h6]; decide)) $$ [HB HA]
  · isplitl [HB] <;> iassumption
  iintro ⟨HB, HA⟩

  unfold accAt gift tok sendPay
  icases HA with ⟨%f, %hf, Ha⟩
  icases Hs with ⟨%fs, Hs⟩
  icases Hg with ⟨Hr, Hr1, Hr2⟩
  icases Htk with ⟨Ht1, Ht2⟩
  iapply (wp_load_rect 𝒱₀ (c : Thread nD τ) none Set.univ (m := accM) (r := aL) (Finset.subset_univ _)) $$ Ha; iintro Ha
  iapply (wp_load_rect 𝒱₀ (c : Thread nD τ) none Set.univ (m := accM) (r := aL) (Finset.subset_univ _)) $$ Ha; iintro Ha
  rw [hf.1]
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := accM) (r := aR) (Finset.subset_univ _)) $$ Ha; iintro Ha
  iapply (wp_load_rect 𝒱₀ (c : Thread nD τ) none Set.univ (m := accM) (r := aR) (Finset.subset_univ _)) $$ Ha; iintro Ha
  rw [(hf.storeL _).2]
  iapply (wp_store 𝒱₀ (c : Thread nD τ) none Set.univ (m := accM) (r := aR) (Mk := Finset.univ) (Finset.subset_univ _)) $$ Ha; iintro Ha
  have hg := acc_tile m c 1 t (by omega) f hf
  iapply (wp_load_rect 𝒱₀ (c : Thread nD τ) none Set.univ (m := accM) (r := aL) (Finset.subset_univ _)) $$ Ha; iintro Ha
  rw [hg.1]
  iapply (wp_load_rect 𝒱₀ (c : Thread nD τ) none Set.univ (m := sendM) (r := s1L) (sub_of_rect_s (j := 1) rfl)) $$ Hs; iintro Hs
  iapply (wp_store 𝒱₀ (c : Thread nD τ) none Set.univ (m := sendM) (r := s1L) (Mk := Finset.univ) (sub_of_rect_s (j := 1) rfl)) $$ Hs; iintro Hs
  iapply (wp_load_rect 𝒱₀ (c : Thread nD τ) none Set.univ (m := accM) (r := aR) (Finset.subset_univ _)) $$ Ha; iintro Ha
  rw [hg.2]
  iapply (wp_load_rect 𝒱₀ (c : Thread nD τ) none Set.univ (m := sendM) (r := s1Rt) (sub_of_rect_s (j := 1) rfl)) $$ Hs; iintro Hs
  iapply (wp_store 𝒱₀ (c : Thread nD τ) none Set.univ (m := sendM) (r := s1Rt) (Mk := Finset.univ) (sub_of_rect_s (j := 1) rfl)) $$ Hs; iintro Hs
  iapply (wp_load_rect 𝒱₀ (c : Thread nD τ) none Set.univ (m := tblM) (r := (Rect.unit (s := S4) ![1] S1.size inb_S4_S1_1)) (Finset.subset_univ _)) $$ Ht; iintro Ht
  rw [tbl_read c 1 _ _]
  simp only [wp_assume_of _ _ _ _ (d := k0_chk2.dec _ _) (chk2_ok c (grid0.coords t))]
  iapply (wp_send1 m K c _ (Fin.ext (dev5_val c)) W _ _ rfl rfl _ (send_store1 _ _ _)) $$ [Hs Hr HO Ht1 Ht2 Hr1]
  · isplitr; · iexact HP
    isplitl [Hs]; · iexact Hs
    isplitl [Hr]; · iexact Hr
    isplitl [HO]; · iexact HO
    isplitl [Ht1]; · iexact Ht1
    isplitl [Ht2] <;> iassumption
  iintro ⟨Hc, HO⟩
  rw [wp_ret]; imodintro
  iapply Hk
  isplitl [Ht]; · iexact Ht
  isplitl [HB]; · iexact HB
  isplitl [Ha]; · (unfold accAny; iexists _; iexact Ha)
  isplitl [HO]; · iexact HO
  isplitl [Hr2] <;> iassumption

set_option maxHeartbeats 8000000 in
/-- The end of step 2: the first slot comes back, and the tile goes out of it. -/
theorem wp_body_send2 (c : Dev nD) (t : Fin grid0.N) (h6 : t.val % 8 = 7) (hs : t.val / 8 = 2) (W : Waits sig Unit) {Q} :
    iprop(pers m K c ∗ tblAt (F := F) c ∗ blocks m arg3 arg4 c t.val ∗ accAt m c (t.val - 1) ∗ owes (c : Thread nD τ) (owe c 4) W ∗ gift (F := F) c 2 ∗ tok (F := F) c 2
        ∗ cred (tallyAt (sendCell c 0) () NN) ∗ atPos ER (sendCell c 0) 0 ∅ 0)
      ⊢ iprop((iprop(tblAt (F := F) c ∗ blocks m arg3 arg4 c t.val ∗ accAny (F := F) c ∗ owes (c : Thread nD τ) (owe c 3) (insert (SemLoc.dma (sendS 0), ()) W) ∗ reached ER (exitCell (pe c 2)) 0
            ∗ cred (tallyAt (sendCell c 2) () NN) ∗ atPos ER (sendCell c 0) 1 ∅ 0) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_pos ((cond6_iff t).mpr h6), dif_neg (fun h => absurd (hs.symm.trans ((cond7_iff t).mp h)) (by decide)), dif_neg (fun h => absurd (hs.symm.trans ((cond8_iff t).mp h)) (by decide)), dif_pos ((cond9_iff t).mpr hs), dif_neg (fun h => absurd (hs.symm.trans ((cond10_iff t).mp h)) (by decide)), k0_part2_eq_skeleton, k0_part2_skel, semSignalWord, semWaitWord, smemLoad, smemLoadElt, Prog.lift, Prog.bind_op, Prog.bind_ret, Prog.pure_eq_ret, Prog.bind_assoc]
  rw [wp_bind]
  iintro ⟨#HP, Ht, HB, HA, HO, Hg, Htk, Hc0, Hat⟩ Hk
  iapply (wp_part8_later m arg3 harg3 arg4 harg4 c t (by rw [h6]; decide)) $$ [HB HA]
  · isplitl [HB] <;> iassumption
  iintro ⟨HB, HA⟩

  unfold accAt gift tok
  icases HA with ⟨%f, %hf, Ha⟩
  icases Hg with ⟨Hr, Hr1, Hr2⟩
  icases Htk with ⟨Ht1, Ht2⟩
  iapply (wp_load_rect 𝒱₀ (c : Thread nD τ) none Set.univ (m := accM) (r := aL) (Finset.subset_univ _)) $$ Ha; iintro Ha
  iapply (wp_load_rect 𝒱₀ (c : Thread nD τ) none Set.univ (m := accM) (r := aL) (Finset.subset_univ _)) $$ Ha; iintro Ha
  rw [hf.1]
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := accM) (r := aR) (Finset.subset_univ _)) $$ Ha; iintro Ha
  iapply (wp_load_rect 𝒱₀ (c : Thread nD τ) none Set.univ (m := accM) (r := aR) (Finset.subset_univ _)) $$ Ha; iintro Ha
  rw [(hf.storeL _).2]
  iapply (wp_store 𝒱₀ (c : Thread nD τ) none Set.univ (m := accM) (r := aR) (Mk := Finset.univ) (Finset.subset_univ _)) $$ Ha; iintro Ha
  have hg := acc_tile m c 2 t (by omega) f hf
  iapply (wp_load_rect 𝒱₀ (c : Thread nD τ) none Set.univ (m := tblM) (r := (Rect.unit (s := S4) ![0] S1.size inb_S4_S1_0)) (Finset.subset_univ _)) $$ Ht; iintro Ht
  iapply (wp_wait_send m K c 0 4 _ rfl W (show sS0.view.dmaCredit = NN from rfl)) $$ [Hc0 HO Hat]
  · isplitr; · iexact HP
    isplitl [Hc0]; · iexact Hc0
    isplitl [HO] <;> iassumption
  iintro ⟨HO, Hat, Hs⟩
  unfold sendPay
  icases Hs with ⟨%fs, Hs⟩
  iapply (wp_load_rect 𝒱₀ (c : Thread nD τ) none Set.univ (m := accM) (r := aL) (Finset.subset_univ _)) $$ Ha; iintro Ha
  rw [hg.1]
  iapply (wp_load_rect 𝒱₀ (c : Thread nD τ) none Set.univ (m := sendM) (r := s0L) (sub_of_rect_s (j := 0) rfl)) $$ Hs; iintro Hs
  iapply (wp_store 𝒱₀ (c : Thread nD τ) none Set.univ (m := sendM) (r := s0L) (Mk := Finset.univ) (sub_of_rect_s (j := 0) rfl)) $$ Hs; iintro Hs
  iapply (wp_load_rect 𝒱₀ (c : Thread nD τ) none Set.univ (m := accM) (r := aR) (Finset.subset_univ _)) $$ Ha; iintro Ha
  rw [hg.2]
  iapply (wp_load_rect 𝒱₀ (c : Thread nD τ) none Set.univ (m := sendM) (r := s0Rt) (sub_of_rect_s (j := 0) rfl)) $$ Hs; iintro Hs
  iapply (wp_store 𝒱₀ (c : Thread nD τ) none Set.univ (m := sendM) (r := s0Rt) (Mk := Finset.univ) (sub_of_rect_s (j := 0) rfl)) $$ Hs; iintro Hs
  iapply (wp_load_rect 𝒱₀ (c : Thread nD τ) none Set.univ (m := tblM) (r := (Rect.unit (s := S4) ![2] S1.size inb_S4_S1_2)) (Finset.subset_univ _)) $$ Ht; iintro Ht
  rw [tbl_read c 2 _ _]
  simp only [wp_assume_of _ _ _ _ (d := k0_chk3.dec _ _) (chk3_ok c (grid0.coords t))]
  iapply (wp_send2 m K c _ (Fin.ext (dev6_val c)) _ _ _ rfl rfl _ (send_store0 2 rfl _ _ _)) $$ [Hs Hr HO Ht1 Ht2 Hr1]
  · isplitr; · iexact HP
    isplitl [Hs]; · iexact Hs
    isplitl [Hr]; · iexact Hr
    isplitl [HO]; · iexact HO
    isplitl [Ht1]; · iexact Ht1
    isplitl [Ht2] <;> iassumption
  iintro ⟨Hc, HO⟩
  rw [wp_ret]; imodintro
  iapply Hk
  isplitl [Ht]; · iexact Ht
  isplitl [HB]; · iexact HB
  isplitl [Ha]; · (unfold accAny; iexists _; iexact Ha)
  isplitl [HO]; · iexact HO
  isplitl [Hr2]; · iexact Hr2
  isplitl [Hc] <;> iassumption

end Bodies

end Cert.A2A
-- ==== Proof.Last.lean ====
/-
# The last step

The tile a device keeps and the three it received go to its block of the result, one after the other; what the block
then holds; and the body of the last point.
-/
module

public import proofs.«01_k».proof.Proof.Tails

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## Halves -/

/-- Position in the left half, in the right half. -/
def colL (i : (S2048x1024).Idx) (h : (i 1).val < 512) : (S2048x512).Idx := fun a => match a with
  | 0 => ⟨(i 0).val, by have : (i 0).val < 2048 := (i 0).isLt; exact this⟩
  | 1 => ⟨(i 1).val, h⟩
def colR (i : (S2048x1024).Idx) : (S2048x512).Idx := fun a => match a with
  | 0 => ⟨(i 0).val, by have : (i 0).val < 2048 := (i 0).isLt; exact this⟩
  | 1 => ⟨(i 1).val - 512, by have : (i 1).val < 1024 := (i 1).isLt; show _ < 512; omega⟩
/-- A tile of two halves. -/
def halves (Lh Rh : Vec F S2048x512 .f32) : Vec F S2048x1024 .f32 := fun i =>
  if h : (i 1).val < 512 then Lh (colL i h) else Rh (colR i)

theorem AccIs.eq {f : (cc0_scratch0 : Ref sig .tc).ty.Contents (Elt F)} {Lh Rh : Vec F S2048x512 .f32} (h : AccIs f Lh Rh) : f = halves Lh Rh := by
  obtain ⟨rfl, rfl⟩ := h
  funext i
  unfold halves
  by_cases hi : (i 1).val < 512
  · rw [dif_pos hi]
    show f i = f ((aL).emb (colL i hi))
    congr 1; funext a; apply Fin.ext; rw [Rect.emb_apply]
    fin_cases a
    · show (i 0).val = 0 + 1 * (i 0).val; omega
    · show (i 1).val = 0 + 1 * (i 1).val; omega
  · rw [dif_neg hi]
    show f i = f ((aR).emb (colR i))
    congr 1; funext a; apply Fin.ext; rw [Rect.emb_apply]
    fin_cases a
    · show (i 0).val = 0 + 1 * (i 0).val; omega
    · show (i 1).val = 512 + 1 * ((i 1).val - 512); omega

/-! ## The block of the result -/

/-- The tile put down by copy `k` of the last step: the device's own, then the received ones. -/
def stg (c : Dev nD) : ℕ → Vec F S2048x1024 .f32
  | 0 => halves (tileL m c 3) (tileR m c 3)
  | 1 => halves (k0_pay9 (chunkL m (sr c 0) 0)) (k0_pay10 (chunkR m (sr c 0) 0))
  | 2 => halves (k0_pay9 (chunkL m (sr c 1) 1)) (k0_pay10 (chunkR m (sr c 1) 1))
  | _ => halves (k0_pay9 (chunkL m (sr c 2) 2)) (k0_pay10 (chunkR m (sr c 2) 2))

/-- A position inside its group of rows. -/
def lo (i : (S8192x1024).Idx) : (S2048x1024).Idx := fun a => match a with
  | 0 => ⟨(i 0).val % 2048, Nat.mod_lt _ (by decide)⟩
  | 1 => ⟨(i 1).val, by have : (i 1).val < 1024 := (i 1).isLt; exact this⟩
/-- Device `c`'s block of the result: rows `2048 * q` on come from device `q`. -/
def outVal (c : Dev nD) : (main_v10 : Ref sig .tc).ty.Contents (Elt F) := fun i => stg m c ((c.val + 4 - (i 0).val / 2048) % 4) (lo i)

/-- The first `n` copies are in place. -/
def OutIs (c : Dev nD) (n : ℕ) (g : (main_v10 : Ref sig .tc).ty.Contents (Elt F)) : Prop :=
  ∀ i : (S8192x1024).Idx, (c.val + 4 - (i 0).val / 2048) % 4 < n → g i = outVal m c i

theorem OutIs.full {c : Dev nD} {g : (main_v10 : Ref sig .tc).ty.Contents (Elt F)} (h : OutIs m c 4 g) : g = outVal m c :=
  funext fun i => h i (Nat.mod_lt _ (by decide))

theorem out_write (q : ℕ) (off : Fin 2 → ℕ) (hoff : off = ![2048 * q, 0]) (inb) (g : (main_v10 : Ref sig .tc).ty.Contents (Elt F)) (f : Vec F S2048x1024 .f32)
    (i : (S8192x1024).Idx) :
    ((outM.access (Rect.unit (s := S8192x1024) off S2048x1024.size inb) : View sig .tc _ _ _).write (Elt F) g f Finset.univ) i
      = if (i 0).val / 2048 = q then f (lo i) else g i := by
  subst hoff
  have h0 : (i 0).val < 8192 := (i 0).isLt
  have h1 : (i 1).val < 1024 := (i 1).isLt
  by_cases h : (i 0).val / 2048 = q
  · rw [if_pos h]
    have e : (outM.access (Rect.unit (s := S8192x1024) ![2048 * q, 0] S2048x1024.size inb) : View sig .tc _ _ _).emb (lo i) = i := by
      show (Rect.unit (s := S8192x1024) ![2048 * q, 0] S2048x1024.size inb).emb (lo i) = i
      funext a; apply Fin.ext; rw [Rect.emb_apply]
      fin_cases a
      · show 2048 * q + 1 * ((i 0).val % 2048) = (i 0).val; omega
      · show 0 + 1 * (i 1).val = (i 1).val; omega
    have h2 := View.write_emb_of_mem (v := (outM.access (Rect.unit (s := S8192x1024) ![2048 * q, 0] S2048x1024.size inb) : View sig .tc _ _ _)) (Val := Elt F) g f (Finset.mem_univ (lo i))
    rw [e] at h2
    exact h2
  · rw [if_neg h]
    refine View.write_of_not_mem _ _ _ fun hm => h ?_
    have hm : i ∈ (outM.access (Rect.unit (s := S8192x1024) ![2048 * q, 0] S2048x1024.size inb) : View sig .tc _ _ _).set := hm
    rw [View.set_slice] at hm
    have hm : i ∈ (Rect.unit (s := S8192x1024) ![2048 * q, 0] S2048x1024.size inb).set := by
      obtain ⟨y, hy, e⟩ := Finset.mem_map.mp hm
      have e : y = i := e
      rw [← e]; exact hy
    have := Rect.mem_set_unit.mp hm 0
    have h3 : 2048 * q ≤ (i 0).val ∧ (i 0).val < 2048 * q + 2048 := this
    omega

theorem OutIs.step {c : Dev nD} {n : ℕ} (hn : n < 4) {g : (main_v10 : Ref sig .tc).ty.Contents (Elt F)} (h : OutIs m c n g) (f : Vec F S2048x1024 .f32)
    (hf : f = stg m c n) (off : Fin 2 → ℕ) (hoff : off = ![2048 * ((c.val + 4 - n) % 4), 0]) (inb) :
    OutIs m c (n + 1) ((outM.access (Rect.unit (s := S8192x1024) off S2048x1024.size inb) : View sig .tc _ _ _).write (Elt F) g f Finset.univ) := by
  intro i hi
  rw [out_write _ off hoff inb g f i]
  have h0 : (i 0).val < 8192 := (i 0).isLt
  have hc : c.val < 4 := c.isLt
  by_cases e : (i 0).val / 2048 = (c.val + 4 - n) % 4
  · rw [if_pos e, hf]
    unfold outVal
    rw [show (c.val + 4 - (i 0).val / 2048) % 4 = n by omega]
  · rw [if_neg e]
    exact h i (by omega)

theorem off2_val : ∀ c : Dev nD, k0_off2 c = ![2048 * ((c.val + 4 - 0) % 4), 0] := by decide +kernel
theorem off3_val0 : ∀ c : Dev nD, k0_off3 c 0#32 = ![2048 * ((c.val + 4 - 1) % 4), 0] := by decide +kernel
theorem off3_val1 : ∀ c : Dev nD, k0_off3 c 1#32 = ![2048 * ((c.val + 4 - 2) % 4), 0] := by decide +kernel
theorem off3_val2 : ∀ c : Dev nD, k0_off3 c 2#32 = ![2048 * ((c.val + 4 - 3) % 4), 0] := by decide +kernel

/-! ## The last point -/

/-- What the last point takes of the device's cells, -/
def hold (c : Dev nD) : sProp 𝕄 :=
  iprop((cred (tallyAt (recvCell c 0) () NN) ∗ atPos ER (recvCell c 0) 0 ∅ 0)
    ∗ (cred (tallyAt (recvCell c 1) () NN) ∗ atPos ER (recvCell c 1) 0 ∅ 0)
    ∗ (cred (tallyAt (recvCell c 2) () NN) ∗ atPos ER (recvCell c 2) 0 ∅ 0)
    ∗ (cred (tallyAt (exitCell c) () 3) ∗ atPos ER (exitCell c) 0 ∅ 0)
    ∗ (dutyTok ER (exitCell (pe c 0)) 0 0 ∗ dutyTok ER (exitCell (pe c 1)) 0 1 ∗ dutyTok ER (exitCell (pe c 2)) 0 2)
    ∗ (atPos ER (sendCell c 1) 0 ∅ 0 ∗ atPos ER (sendCell c 2) 0 ∅ 0))
/-- and what it leaves. -/
def done (c : Dev nD) : sProp 𝕄 :=
  iprop((atPos ER (recvCell c 0) 1 ∅ 0 ∗ recvPay m c 0) ∗ (atPos ER (recvCell c 1) 1 ∅ 0 ∗ recvPay m c 1) ∗ (atPos ER (recvCell c 2) 1 ∅ 0 ∗ recvPay m c 2)
    ∗ atPos ER (exitCell c) 1 ∅ 0 ∗ (atPos ER (sendCell c 1) 1 ∅ 0 ∗ sendPay (F := F) c 1) ∗ (atPos ER (sendCell c 2) 1 ∅ 0 ∗ sendPay (F := F) c 2))

theorem acc_pack (c : Dev nD) (f : (cc0_scratch0 : Ref sig .tc).ty.Contents (Elt F)) (l r : Vec F S2048x512 .f32) :
    ((((c : Thread nD τ).loc cc0_scratch0) ↦{fullShare} ((accM.access aR : View sig .tc _ _ _).write (Elt F) ((accM.access aL : View sig .tc _ _ _).write (Elt F) f l Finset.univ) r Finset.univ)) : sProp 𝕄)
      ⊢ iprop(∃ f' : Buf (Elt F) ((c : Thread nD τ).loc cc0_scratch0), ⌜f' = halves l r⌝ ∗ (((c : Thread nD τ).loc cc0_scratch0) ↦{fullShare} f')) := by
  iintro H
  iexists _; isplitr
  · ipureintro; exact (acc_two f l r).eq
  iexact H

section Last

variable (arg3 : Memref sig .tc .vmem S2048x1024 .f32) (harg3 : arg3.IsWhole) (arg4 : Memref sig .tc .vmem S1024x1024 .f32) (harg4 : arg4.IsWhole)

set_option maxHeartbeats 16000000 in
/-- The last point. -/
theorem wp_body_last (c : Dev nD) (t : Fin grid0.N) (h6 : t.val % 8 = 7) (hs : t.val / 8 = 3) (W : Waits sig Unit) {Q} :
    iprop(pers m K c ∗ tblAt (F := F) c ∗ blocks m arg3 arg4 c t.val ∗ accAt m c (t.val - 1) ∗ owes (c : Thread nD τ) (owe c 3) W
        ∗ semVal ((c : Thread nD τ), SemLoc.dma locS) 0 ∗ (∃ g : Buf (Elt F) ((c : Thread nD τ).loc main_v10), ((c : Thread nD τ).loc main_v10) ↦{fullShare} g)
        ∗ hold (F := F) c ∗ (reached ER (exitCell (pe c 0)) 0 ∗ reached ER (exitCell (pe c 1)) 0 ∗ reached ER (exitCell (pe c 2)) 0)
        ∗ cred (tallyAt (sendCell c 1) () NN) ∗ cred (tallyAt (sendCell c 2) () NN))
      ⊢ iprop((iprop(tblAt (F := F) c ∗ blocks m arg3 arg4 c t.val ∗ accAny (F := F) c ∗ (∃ W', owes (c : Thread nD τ) (owe c 0) W')
            ∗ semVal ((c : Thread nD τ), SemLoc.dma locS) 0 ∗ (((c : Thread nD τ).loc main_v10) ↦{fullShare} outVal m c) ∗ done m c) -∗ Q ⟨⟩)
        -∗ wp frame (wpE (defs₀ (F := F)) 𝒱₀ (c : Thread nD τ) none) Set.univ (bodyAt arg3 harg3 arg4 harg4 t) Q) := by
  simp only [bodyAt, cc0_body_eq_skeleton]; unfold cc0_body_skel
  simp only [dif_pos ((cond6_iff t).mpr h6), dif_neg (fun h => absurd (hs.symm.trans ((cond7_iff t).mp h)) (by decide)), dif_neg (fun h => absurd (hs.symm.trans ((cond8_iff t).mp h)) (by decide)), dif_neg (fun h => absurd (hs.symm.trans ((cond9_iff t).mp h)) (by decide)), dif_pos ((cond10_iff t).mpr hs), k0_part3_eq_skeleton, k0_part3_skel, k0_part4_eq_skeleton, k0_part4_skel, k0_part5_eq_skeleton, k0_part5_skel, k0_part6_eq_skeleton, k0_part6_skel, k0_part7_eq_skeleton, k0_part7_skel, semSignalWord, semWaitWord, smemLoad, smemLoadElt, Prog.lift, Prog.bind_op, Prog.bind_ret, Prog.pure_eq_ret, Prog.bind_assoc]
  rw [wp_bind]
  unfold hold
  iintro ⟨#HP, Ht, HB, HA, HO, Hv, ⟨%g, Ho⟩, ⟨⟨Hr0, Hra0⟩, ⟨Hr1, Hra1⟩, ⟨Hr2, Hra2⟩, ⟨Hx, Hxa⟩, ⟨Hd0, Hd1, Hd2⟩, ⟨Hs1, Hs2⟩⟩, ⟨He0, He1, He2⟩, Hc1, Hc2⟩ Hk
  iapply (wp_part8_later m arg3 harg3 arg4 harg4 c t (by rw [h6]; decide)) $$ [HB HA]
  · isplitl [HB] <;> iassumption
  iintro ⟨HB, HA⟩

  dsimp only
  unfold accAt
  icases HA with ⟨%f, %hf, Ha⟩
  iapply (wp_load_rect 𝒱₀ (c : Thread nD τ) none Set.univ (m := accM) (r := aL) (Finset.subset_univ _)) $$ Ha; iintro Ha
  iapply (wp_load_rect 𝒱₀ (c : Thread nD τ) none Set.univ (m := accM) (r := aL) (Finset.subset_univ _)) $$ Ha; iintro Ha
  rw [hf.1]
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := accM) (r := aR) (Finset.subset_univ _)) $$ Ha; iintro Ha
  iapply (wp_load_rect 𝒱₀ (c : Thread nD τ) none Set.univ (m := accM) (r := aR) (Finset.subset_univ _)) $$ Ha; iintro Ha
  rw [(hf.storeL _).2]
  iapply (wp_store 𝒱₀ (c : Thread nD τ) none Set.univ (m := accM) (r := aR) (Mk := Finset.univ) (Finset.subset_univ _)) $$ Ha; iintro Ha
  have hg := acc_tile m c 3 t (by omega) f hf
  have ho : OutIs m c 0 g := fun i hi => absurd hi (Nat.not_lt_zero _)
  have ho1 := ho.step m (by decide) _ hg.eq _ (off2_val c) (k0_off2_inb (grid0.coords t) c ((cond6_iff t).mpr h6) ((cond10_iff t).mpr hs))
  iapply (wp_copy m K c 3 _ _ _ _ rfl) $$ [Ha Ho Hv HO]
  · isplitr; · iexact HP
    isplitl [Ha]; · iexact Ha
    isplitl [Ho]; · iexact Ho
    isplitl [Hv] <;> iassumption
  iintro ⟨Ha, Ho, Hv, HO⟩
  iapply (wp_wait_recv m K c 0 _ rfl _ (show rS0.view.dmaCredit = NN from rfl)) $$ [Hr0 HO Hra0]
  · isplitr; · iexact HP
    isplitl [Hr0]; · iexact Hr0
    isplitl [HO] <;> iassumption
  iintro ⟨HO, Hra0, Hp0⟩
  unfold recvPay
  icases Hp0 with ⟨%fr0, %hr0, Hp0⟩
  iapply (wp_load_rect 𝒱₀ (c : Thread nD τ) none Set.univ (m := recvM) (r := r0L) (sub_of_rect_r (j := 0) rfl)) $$ Hp0; iintro Hp0
  rw [hr0.1]
  iapply (wp_load_rect 𝒱₀ (c : Thread nD τ) none Set.univ (m := accM) (r := aL) (Finset.subset_univ _)) $$ Ha; iintro Ha
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := recvM) (r := r0Rt) (sub_of_rect_r (j := 0) rfl)) $$ Hp0; iintro Hp0
  rw [hr0.2]
  iapply (wp_load_rect 𝒱₀ (c : Thread nD τ) none Set.univ (m := accM) (r := aR) (Finset.subset_univ _)) $$ Ha; iintro Ha
  iapply (wp_store 𝒱₀ (c : Thread nD τ) none Set.univ (m := accM) (r := aR) (Mk := Finset.univ) (Finset.subset_univ _)) $$ Ha; iintro Ha
  ihave Ha := (acc_pack c _ _ _) $$ Ha
  icases Ha with ⟨%fa0, %hfa0, Ha⟩
  have ho2 := ho1.step m (by decide) _ hfa0 _ (off3_val0 c) (k0_off3_inb (grid0.coords t) c ((cond6_iff t).mpr h6) ((cond10_iff t).mpr hs) 0)
  iapply (wp_copy m K c 3 _ _ _ _ rfl) $$ [Ha Ho Hv HO]
  · isplitr; · iexact HP
    isplitl [Ha]; · iexact Ha
    isplitl [Ho]; · iexact Ho
    isplitl [Hv] <;> iassumption
  iintro ⟨Ha, Ho, Hv, HO⟩
  iapply (wp_wait_recv m K c 1 _ rfl _ (show rS1.view.dmaCredit = NN from rfl)) $$ [Hr1 HO Hra1]
  · isplitr; · iexact HP
    isplitl [Hr1]; · iexact Hr1
    isplitl [HO] <;> iassumption
  iintro ⟨HO, Hra1, Hp1⟩
  unfold recvPay
  icases Hp1 with ⟨%fr1, %hr1, Hp1⟩
  iapply (wp_load_rect 𝒱₀ (c : Thread nD τ) none Set.univ (m := recvM) (r := r1L) (sub_of_rect_r (j := 1) rfl)) $$ Hp1; iintro Hp1
  rw [hr1.1]
  iapply (wp_load_rect 𝒱₀ (c : Thread nD τ) none Set.univ (m := accM) (r := aL) (Finset.subset_univ _)) $$ Ha; iintro Ha
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := recvM) (r := r1Rt) (sub_of_rect_r (j := 1) rfl)) $$ Hp1; iintro Hp1
  rw [hr1.2]
  iapply (wp_load_rect 𝒱₀ (c : Thread nD τ) none Set.univ (m := accM) (r := aR) (Finset.subset_univ _)) $$ Ha; iintro Ha
  iapply (wp_store 𝒱₀ (c : Thread nD τ) none Set.univ (m := accM) (r := aR) (Mk := Finset.univ) (Finset.subset_univ _)) $$ Ha; iintro Ha
  ihave Ha := (acc_pack c _ _ _) $$ Ha
  icases Ha with ⟨%fa1, %hfa1, Ha⟩
  have ho3 := ho2.step m (by decide) _ hfa1 _ (off3_val1 c) (k0_off3_inb (grid0.coords t) c ((cond6_iff t).mpr h6) ((cond10_iff t).mpr hs) 1)
  iapply (wp_copy m K c 3 _ _ _ _ rfl) $$ [Ha Ho Hv HO]
  · isplitr; · iexact HP
    isplitl [Ha]; · iexact Ha
    isplitl [Ho]; · iexact Ho
    isplitl [Hv] <;> iassumption
  iintro ⟨Ha, Ho, Hv, HO⟩
  iapply (wp_wait_recv m K c 2 _ rfl _ (show rS2.view.dmaCredit = NN from rfl)) $$ [Hr2 HO Hra2]
  · isplitr; · iexact HP
    isplitl [Hr2]; · iexact Hr2
    isplitl [HO] <;> iassumption
  iintro ⟨HO, Hra2, Hp2⟩
  unfold recvPay
  icases Hp2 with ⟨%fr2, %hr2, Hp2⟩
  iapply (wp_load_rect 𝒱₀ (c : Thread nD τ) none Set.univ (m := recvM) (r := r2L) (sub_of_rect_r (j := 2) rfl)) $$ Hp2; iintro Hp2
  rw [hr2.1]
  iapply (wp_load_rect 𝒱₀ (c : Thread nD τ) none Set.univ (m := accM) (r := aL) (Finset.subset_univ _)) $$ Ha; iintro Ha
  iapply (wp_store 𝒱₀ (c : Thread nD τ) none Set.univ (m := accM) (r := aL) (Mk := Finset.univ) (Finset.subset_univ _)) $$ Ha; iintro Ha
  iapply (wp_load_rect 𝒱₀ (c : Thread nD τ) none Set.univ (m := recvM) (r := r2Rt) (sub_of_rect_r (j := 2) rfl)) $$ Hp2; iintro Hp2
  rw [hr2.2]
  iapply (wp_load_rect 𝒱₀ (c : Thread nD τ) none Set.univ (m := accM) (r := aR) (Finset.subset_univ _)) $$ Ha; iintro Ha
  iapply (wp_store 𝒱₀ (c : Thread nD τ) none Set.univ (m := accM) (r := aR) (Mk := Finset.univ) (Finset.subset_univ _)) $$ Ha; iintro Ha
  ihave Ha := (acc_pack c _ _ _) $$ Ha
  icases Ha with ⟨%fa2, %hfa2, Ha⟩
  have ho4 := ho3.step m (by decide) _ hfa2 _ (off3_val2 c) (k0_off3_inb (grid0.coords t) c ((cond6_iff t).mpr h6) ((cond10_iff t).mpr hs) 2)
  iapply (wp_copy m K c 3 _ _ _ _ rfl) $$ [Ha Ho Hv HO]
  · isplitr; · iexact HP
    isplitl [Ha]; · iexact Ha
    isplitl [Ho]; · iexact Ho
    isplitl [Hv] <;> iassumption
  iintro ⟨Ha, Ho, Hv, HO⟩
  iapply (wp_load_rect 𝒱₀ (c : Thread nD τ) none Set.univ (m := tblM) (r := (Rect.unit (s := S4) ![1] S1.size inb_S4_S1_1)) (Finset.subset_univ _)) $$ Ht; iintro Ht
  iapply (wp_wait_send m K c 1 3 _ rfl _ (show sS1.view.dmaCredit = NN from rfl)) $$ [Hc1 HO Hs1]
  · isplitr; · iexact HP
    isplitl [Hc1]; · iexact Hc1
    isplitl [HO] <;> iassumption
  iintro ⟨HO, Hs1, Hq1⟩
  iapply (wp_load_rect 𝒱₀ (c : Thread nD τ) none Set.univ (m := tblM) (r := (Rect.unit (s := S4) ![2] S1.size inb_S4_S1_2)) (Finset.subset_univ _)) $$ Ht; iintro Ht
  iapply (wp_wait_send m K c 2 3 _ rfl _ (show sS0.view.dmaCredit = NN from rfl)) $$ [Hc2 HO Hs2]
  · isplitr; · iexact HP
    isplitl [Hc2]; · iexact Hc2
    isplitl [HO] <;> iassumption
  iintro ⟨HO, Hs2, Hq2⟩
  iapply (wp_sig_exit m K c _ 0 (Fin.ext (dev7_val c)) 2 rfl rfl _) $$ [HO Hd0 He0]
  · isplitr; · iexact HP
    isplitl [HO]; · iexact HO
    isplitl [Hd0] <;> iassumption
  iintro HO
  iapply (wp_sig_exit m K c _ 1 (Fin.ext (dev8_val c)) 1 rfl rfl _) $$ [HO Hd1 He1]
  · isplitr; · iexact HP
    isplitl [HO]; · iexact HO
    isplitl [Hd1] <;> iassumption
  iintro HO
  iapply (wp_sig_exit m K c _ 2 (Fin.ext (dev9_val c)) 0 rfl rfl _) $$ [HO Hd2 He2]
  · isplitr; · iexact HP
    isplitl [HO]; · iexact HO
    isplitl [Hd2] <;> iassumption
  iintro HO
  iapply (wp_wait_exit m K c _) $$ [Hx HO Hxa]
  · isplitr; · iexact HP
    isplitl [Hx]; · iexact Hx
    isplitl [HO] <;> iassumption
  iintro ⟨HO, Hxa⟩
  rw [wp_ret]; imodintro
  iapply Hk
  isplitl [Ht]; · iexact Ht
  isplitl [HB]; · iexact HB
  isplitl [Ha]; · (unfold accAny; iexists _; iexact Ha)
  isplitl [HO]; · (iexists _; iexact HO)
  isplitl [Hv]; · iexact Hv
  isplitl [Ho]; · (rw [← ho4.full m]; iexact Ho)
  unfold done recvPay
  isplitl [Hra0 Hp0]
  · isplitl [Hra0]; · iexact Hra0
    iexists fr0; isplitr; · (ipureintro; exact hr0)
    iexact Hp0
  isplitl [Hra1 Hp1]
  · isplitl [Hra1]; · iexact Hra1
    iexists fr1; isplitr; · (ipureintro; exact hr1)
    iexact Hp1
  isplitl [Hra2 Hp2]
  · isplitl [Hra2]; · iexact Hra2
    iexists fr2; isplitr; · (ipureintro; exact hr2)
    iexact Hp2
  isplitl [Hxa]; · iexact Hxa
  isplitl [Hs1 Hq1]
  · isplitl [Hs1] <;> iassumption
  isplitl [Hs2] <;> iassumption

end Last

end Cert.A2A
-- ==== Proof.State.lean ====
/-
# The state between points, and the body at every point
-/
module

public import proofs.«01_k».proof.Proof.Last

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## The slots together -/

/-- A whole scratch buffer at some contents. -/
abbrev sendAny (c : Dev nD) : sProp 𝕄 := iprop(∃ f : Buf (Elt F) ((c : Thread nD τ).loc cc0_scratch1), ((c : Thread nD τ).loc cc0_scratch1) ↦{fullShare} f)
abbrev recvAny (c : Dev nD) : sProp 𝕄 := iprop(∃ f : Buf (Elt F) ((c : Thread nD τ).loc cc0_scratch2), ((c : Thread nD τ).loc cc0_scratch2) ↦{fullShare} f)
abbrev recvSlot (c : Dev nD) (j : Fin 3) : sProp 𝕄 :=
  iprop(∃ f : Buf (Elt F) ((c : Thread nD τ).loc cc0_scratch2), ((c : Thread nD τ).loc cc0_scratch2) ↦[rSet j]{fullShare} f)

theorem send_split (c : Dev nD) : sendAny (F := F) c ⊢ iprop(sendPay (F := F) c 0 ∗ sendPay (F := F) c 1) := by
  unfold sendAny sendPay
  iintro ⟨%f, H⟩
  ihave H := (Entails.of_eq (show (((c : Thread nD τ).loc cc0_scratch1) ↦{fullShare} f : sProp 𝕄) = (((c : Thread nD τ).loc cc0_scratch1) ↦[sSet 0 ∪ sSet 1]{fullShare} f) by rw [sSet_cover])) $$ H
  ihave H := (pointsTo_union sSet_disj).1 $$ H
  icases H with ⟨H0, H1⟩
  isplitl [H0]
  · iexists f; iexact H0
  · iexists f; iexact H1
theorem send_join (c : Dev nD) : iprop(sendPay (F := F) c 1 ∗ sendPay (F := F) c 2) ⊢ sendAny (F := F) c := by
  unfold sendAny sendPay
  iintro ⟨⟨%f, H1⟩, ⟨%g, H0⟩⟩
  ihave H := (pointsTo_join (ℓ := (c : Thread nD τ).loc cc0_scratch1) (q := fullShare) (f := g) (g := f) sSet_disj) $$ [H0 H1]
  · isplitl [H0]; · iexact H0
    iexact H1
  iexists _
  iapply (Entails.of_eq (show (((c : Thread nD τ).loc cc0_scratch1) ↦[sSet 0 ∪ sSet 1]{fullShare} ((sSet 1).piecewise f g) : sProp 𝕄) = (((c : Thread nD τ).loc cc0_scratch1) ↦{fullShare} ((sSet 1).piecewise f g)) by rw [sSet_cover]))
  iexact H
theorem recv_split (c : Dev nD) : recvAny (F := F) c ⊢ iprop(recvSlot (F := F) c 0 ∗ recvSlot (F := F) c 1 ∗ recvSlot (F := F) c 2) := by
  unfold recvAny recvSlot
  iintro ⟨%f, H⟩
  ihave H := (Entails.of_eq (show (((c : Thread nD τ).loc cc0_scratch2) ↦{fullShare} f : sProp 𝕄) = (((c : Thread nD τ).loc cc0_scratch2) ↦[(rSet 0 ∪ rSet 1) ∪ rSet 2]{fullShare} f) by rw [rSet_cover])) $$ H
  ihave H := (pointsTo_union rSet_disj2).1 $$ H
  icases H with ⟨H, H2⟩
  ihave H := (pointsTo_union rSet_disj01).1 $$ H
  icases H with ⟨H0, H1⟩
  isplitl [H0]
  · iexists f; iexact H0
  isplitl [H1]
  · iexists f; iexact H1
  · iexists f; iexact H2
theorem recv_join (c : Dev nD) : iprop(recvPay m c 0 ∗ recvPay m c 1 ∗ recvPay m c 2) ⊢ recvAny (F := F) c := by
  unfold recvAny recvPay
  iintro ⟨⟨%f0, -, H0⟩, ⟨%f1, -, H1⟩, ⟨%f2, -, H2⟩⟩
  ihave H := (pointsTo_join (ℓ := (c : Thread nD τ).loc cc0_scratch2) (q := fullShare) (f := f0) (g := f1) rSet_disj01) $$ [H0 H1]
  · isplitl [H0]; · iexact H0
    iexact H1
  ihave H := (pointsTo_join (ℓ := (c : Thread nD τ).loc cc0_scratch2) (q := fullShare) (f := (rSet 1).piecewise f1 f0) (g := f2) rSet_disj2) $$ [H H2]
  · isplitl [H]; · iexact H
    iexact H2
  iexists _
  iapply (Entails.of_eq (show (((c : Thread nD τ).loc cc0_scratch2) ↦[(rSet 0 ∪ rSet 1) ∪ rSet 2]{fullShare} ((rSet 2).piecewise f2 ((rSet 1).piecewise f1 f0)) : sProp 𝕄) = (((c : Thread nD τ).loc cc0_scratch2) ↦{fullShare} ((rSet 2).piecewise f2 ((rSet 1).piecewise f1 f0))) by rw [rSet_cover]))
  iexact H

/-! ## Every cell closed -/

/-- The device's cells closed, their counters at zero, and its slots whole again. -/
def closed (c : Dev nD) : sProp 𝕄 :=
  iprop(semVal (barCell c) 0 ∗ semVal (exitCell c) 0 ∗ (semVal (sendCell c 0) 0 ∗ semVal (sendCell c 1) 0 ∗ semVal (sendCell c 2) 0)
    ∗ (semVal (recvCell c 0) 0 ∗ semVal (recvCell c 1) 0 ∗ semVal (recvCell c 2) 0) ∗ sendAny (F := F) c ∗ recvAny (F := F) c)

theorem close_all (c : Dev nD) : iprop(pers m K c ∗ atPos ER (barCell c) 1 ∅ 0 ∗ atPos ER (sendCell c 0) 1 ∅ 0 ∗ done m c) ⊢ iprop(|={Set.univ}=> closed (F := F) c) := by
  unfold done closed
  iintro ⟨#HP, Hb, Hs0, ⟨⟨Hr0, Hp0⟩, ⟨Hr1, Hp1⟩, ⟨Hr2, Hp2⟩, Hx, ⟨Hs1, Hq1⟩, ⟨Hs2, Hq2⟩⟩⟩
  ihave HI := (pers_bar m K c c) $$ HP
  icases HI with ⟨HI, -⟩
  imod (Rounds.cell_close ER (Rd m) (Set.mem_univ (K (barCell c))) (fun h => h) (R := 0 + 1) (duties_later m (barCell c))) $$ [HI Hb] with Zb
  · isplitl [HI] <;> iassumption
  ihave HI := (pers_exit m K c c) $$ HP
  imod (Rounds.cell_close ER (Rd m) (Set.mem_univ (K (exitCell c))) (fun h => h) (R := 0 + 1) (duties_later m (exitCell c))) $$ [HI Hx] with Zx
  · isplitl [HI] <;> iassumption
  ihave HI := (pers_send m K c c 0) $$ HP
  imod (Rounds.cell_close ER (Rd m) (Set.mem_univ (K (sendCell c 0))) (fun h => h) (R := 0 + 1) (duties_later m (sendCell c 0))) $$ [HI Hs0] with Zs0
  · isplitl [HI] <;> iassumption
  ihave HI := (pers_send m K c c 1) $$ HP
  imod (Rounds.cell_close ER (Rd m) (Set.mem_univ (K (sendCell c 1))) (fun h => h) (R := 0 + 1) (duties_later m (sendCell c 1))) $$ [HI Hs1] with Zs1
  · isplitl [HI] <;> iassumption
  ihave HI := (pers_send m K c c 2) $$ HP
  imod (Rounds.cell_close ER (Rd m) (Set.mem_univ (K (sendCell c 2))) (fun h => h) (R := 0 + 1) (duties_later m (sendCell c 2))) $$ [HI Hs2] with Zs2
  · isplitl [HI] <;> iassumption
  ihave HI := (pers_recv m K c c 0) $$ HP
  imod (Rounds.cell_close ER (Rd m) (Set.mem_univ (K (recvCell c 0))) (fun h => h) (R := 0 + 1) (duties_later m (recvCell c 0))) $$ [HI Hr0] with Zr0
  · isplitl [HI] <;> iassumption
  ihave HI := (pers_recv m K c c 1) $$ HP
  imod (Rounds.cell_close ER (Rd m) (Set.mem_univ (K (recvCell c 1))) (fun h => h) (R := 0 + 1) (duties_later m (recvCell c 1))) $$ [HI Hr1] with Zr1
  · isplitl [HI] <;> iassumption
  ihave HI := (pers_recv m K c c 2) $$ HP
  imod (Rounds.cell_close ER (Rd m) (Set.mem_univ (K (recvCell c 2))) (fun h => h) (R := 0 + 1) (duties_later m (recvCell c 2))) $$ [HI Hr2] with Zr2
  · isplitl [HI] <;> iassumption
  ihave Hsend := (send_join (F := F) c) $$ [Hq1 Hq2]
  · isplitl [Hq1] <;> iassumption
  ihave Hrecv := (recv_join m c) $$ [Hp0 Hp1 Hp2]
  · isplitl [Hp0]; · iexact Hp0
    isplitl [Hp1] <;> iassumption
  imodintro
  iframe Zb Zx Zs0 Zs1 Zs2 Zr0 Zr1 Zr2
  isplitl [Hsend]; · iexact Hsend
  iexact Hrecv

/-! ## The state between points -/

/-- What the device holds of its cells before point `n`: before the first point, through the four steps, and at the end. -/
def phase (c : Dev nD) (n : ℕ) : sProp 𝕄 :=
  if n = 0 then iprop(barHold (F := F) c ∗ (tok (F := F) c 0 ∗ tok (F := F) c 1 ∗ tok (F := F) c 2) ∗ (sendPay (F := F) c 0 ∗ sendPay (F := F) c 1) ∗ atPos ER (sendCell c 0) 0 ∅ 0 ∗ hold (F := F) c)
  else if n < 8 then iprop(atPos ER (barCell c) 1 ∅ 0 ∗ (gift (F := F) c 0 ∗ gift (F := F) c 1 ∗ gift (F := F) c 2) ∗ (tok (F := F) c 0 ∗ tok (F := F) c 1 ∗ tok (F := F) c 2) ∗ (sendPay (F := F) c 0 ∗ sendPay (F := F) c 1) ∗ atPos ER (sendCell c 0) 0 ∅ 0 ∗ hold (F := F) c)
  else if n < 16 then iprop(atPos ER (barCell c) 1 ∅ 0 ∗ reached ER (exitCell (pe c 0)) 0 ∗ (gift (F := F) c 1 ∗ gift (F := F) c 2) ∗ (tok (F := F) c 1 ∗ tok (F := F) c 2) ∗ sendPay (F := F) c 1 ∗ cred (tallyAt (sendCell c 0) () NN) ∗ atPos ER (sendCell c 0) 0 ∅ 0 ∗ hold (F := F) c)
  else if n < 24 then iprop(atPos ER (barCell c) 1 ∅ 0 ∗ (reached ER (exitCell (pe c 0)) 0 ∗ reached ER (exitCell (pe c 1)) 0) ∗ gift (F := F) c 2 ∗ tok (F := F) c 2 ∗ (cred (tallyAt (sendCell c 0) () NN) ∗ cred (tallyAt (sendCell c 1) () NN)) ∗ atPos ER (sendCell c 0) 0 ∅ 0 ∗ hold (F := F) c)
  else if n < 32 then iprop(atPos ER (barCell c) 1 ∅ 0 ∗ (reached ER (exitCell (pe c 0)) 0 ∗ reached ER (exitCell (pe c 1)) 0 ∗ reached ER (exitCell (pe c 2)) 0) ∗ (cred (tallyAt (sendCell c 1) () NN) ∗ cred (tallyAt (sendCell c 2) () NN)) ∗ atPos ER (sendCell c 0) 1 ∅ 0 ∗ hold (F := F) c)
  else closed (F := F) c

def accPart (c : Dev nD) (n : ℕ) : sProp 𝕄 := if n % 8 = 0 then accAny (F := F) c else accAt m c (n - 1)
def outPart (c : Dev nD) (n : ℕ) : sProp 𝕄 :=
  if n < 32 then iprop(∃ g : Buf (Elt F) ((c : Thread nD τ).loc main_v10), ((c : Thread nD τ).loc main_v10) ↦{fullShare} g)
  else iprop(((c : Thread nD τ).loc main_v10) ↦{fullShare} outVal m c)
def owedN (n : ℕ) : ℕ := if n = 0 then 9 else if n < 8 then 6 else if n < 16 then 5 else if n < 24 then 4 else if n < 32 then 3 else 0

/-- The state before point `n`. -/
def phi (c : Dev nD) (n : ℕ) : sProp 𝕄 :=
  iprop(∃ K : GSem nD τ sig → ℕ, pers m K c ∗ tblAt (F := F) c ∗ semVal ((c : Thread nD τ), SemLoc.dma locS) 0 ∗ accPart m c n ∗ outPart m c n ∗ phase (F := F) c n)

theorem phase_succ (c : Dev nD) (n : ℕ) (h0 : n ≠ 0) (h7 : n % 8 ≠ 7) (hn : n < 32) : phase (F := F) c (n + 1) = phase (F := F) c n := by
  unfold phase; split_ifs <;> first | rfl | (exfalso; omega)
theorem outPart_succ (c : Dev nD) (n : ℕ) (h7 : n + 1 < 32) : outPart m c (n + 1) = outPart m c n := by
  unfold outPart; split_ifs <;> first | rfl | (exfalso; omega)
theorem owedN_succ (n : ℕ) (h0 : n ≠ 0) (h7 : n % 8 ≠ 7) (hn : n < 32) : owedN (n + 1) = owedN n := by
  unfold owedN; split_ifs <;> first | rfl | (exfalso; omega)
theorem accPart_first (c : Dev nD) (n : ℕ) (h : n % 8 = 0) : accPart m c n = accAny (F := F) c := if_pos h
theorem accPart_later (c : Dev nD) (n : ℕ) (h : n % 8 ≠ 0) : accPart m c n = accAt m c (n - 1) := if_neg h

/-! ## The proof data -/

/-- The proof data of the pipeline: the windows hold their blocks, the invariant is `phi`. -/
def dats (_p : Fin 1) (c : Dev nD) : Dat τ (Elt F) Unit ℕ UU ℕ (cfgc (F := F) c) c where
  A w := match w with
    | ⟨0, _⟩ => m ((c : Thread nD τ).loc main_arg0)
    | ⟨1, _⟩ => m ((c : Thread nD τ).loc main_arg1)
  after w t := match w with
    | ⟨0, _⟩ => Xb m c t.val
    | ⟨1, _⟩ => Wb m c t.val
  Φ t := phi m c t.val
  q _ := fullShare
  owed t := owe c (owedN t.val)

theorem pt_val (t : Fin grid0.N) : pt t.val = t := Fin.ext (Nat.mod_eq_of_lt (lt_of_lt_of_eq t.isLt N_0))

theorem fetchX : ∀ t : Fin grid0.N, Window.fetchOf grid0 false (cc0_transform_0) t = true := by decide +kernel
theorem fetch0 (c : Dev nD) (t : Fin grid0.N) : ((cfgc (F := F) c).win (0 : Fin 2)).fetch t = true := fetchX t
theorem fetch1 (c : Dev nD) (t : Fin grid0.N) : ((cfgc (F := F) c).win (1 : Fin 2)).fetch t = true := by
  show Window.fetchOf grid0 false (cc0_transform_1 (F := F) k0_off1_inb numel1_S1 (tblC c)) t = true
  unfold Window.fetchOf
  by_cases ht : t.val = 0
  · simp [ht]
  · have h : ∃ h : 0 < t.val, cc0_transform_1 (F := F) k0_off1_inb numel1_S1 (tblC c) (grid0.coords t)
        ≠ cc0_transform_1 (F := F) k0_off1_inb numel1_S1 (tblC c) (grid0.coords ⟨t.val - 1, by omega⟩) := by
      refine ⟨Nat.pos_of_ne_zero ht, fun e => ?_⟩
      rw [tbl_at, tbl_at] at e
      have e0 : (grid0.coords t 1).val = (grid0.coords ⟨t.val - 1, by omega⟩ 1).val := congrFun e 0
      rw [(coords_val _).2, (coords_val _).2] at e0
      have e1 : t.val % 8 = (t.val - 1) % 8 := e0
      omega
    simp [h]

theorem before0 (c : Dev nD) (p : Fin 1) (t : Fin grid0.N) (d) : (dats m p c).before (0 : Fin 2) t d = Xb m c t.val := by
  unfold Dat.before
  rw [if_pos (fetch0 c t)]
  unfold Xb; rw [pt_val]
  rfl
theorem before1 (c : Dev nD) (p : Fin 1) (t : Fin grid0.N) (d) : (dats m p c).before (1 : Fin 2) t d = Wb m c t.val := by
  unfold Dat.before
  rw [if_pos (fetch1 c t)]
  unfold Wb; rw [pt_val]
  rfl

/-! ## The body at every point -/

theorem phase_at0 (c : Dev nD) : phase (F := F) c 0 = iprop(barHold (F := F) c ∗ (tok (F := F) c 0 ∗ tok (F := F) c 1 ∗ tok (F := F) c 2) ∗ (sendPay (F := F) c 0 ∗ sendPay (F := F) c 1) ∗ atPos ER (sendCell c 0) 0 ∅ 0 ∗ hold (F := F) c) := rfl
theorem phase_at1 (c : Dev nD) (n : ℕ) (h : n ≠ 0) (h' : n < 8) : phase (F := F) c n = iprop(atPos ER (barCell c) 1 ∅ 0 ∗ (gift (F := F) c 0 ∗ gift (F := F) c 1 ∗ gift (F := F) c 2) ∗ (tok (F := F) c 0 ∗ tok (F := F) c 1 ∗ tok (F := F) c 2) ∗ (sendPay (F := F) c 0 ∗ sendPay (F := F) c 1) ∗ atPos ER (sendCell c 0) 0 ∅ 0 ∗ hold (F := F) c) := by
  unfold phase; rw [if_neg h, if_pos h']
theorem phase_at2 (c : Dev nD) (n : ℕ) (h : 8 ≤ n) (h' : n < 16) : phase (F := F) c n = iprop(atPos ER (barCell c) 1 ∅ 0 ∗ reached ER (exitCell (pe c 0)) 0 ∗ (gift (F := F) c 1 ∗ gift (F := F) c 2) ∗ (tok (F := F) c 1 ∗ tok (F := F) c 2) ∗ sendPay (F := F) c 1 ∗ cred (tallyAt (sendCell c 0) () NN) ∗ atPos ER (sendCell c 0) 0 ∅ 0 ∗ hold (F := F) c) := by
  unfold phase; rw [if_neg (by omega), if_neg (by omega), if_pos h']
theorem phase_at3 (c : Dev nD) (n : ℕ) (h : 16 ≤ n) (h' : n < 24) : phase (F := F) c n = iprop(atPos ER (barCell c) 1 ∅ 0 ∗ (reached ER (exitCell (pe c 0)) 0 ∗ reached ER (exitCell (pe c 1)) 0) ∗ gift (F := F) c 2 ∗ tok (F := F) c 2 ∗ (cred (tallyAt (sendCell c 0) () NN) ∗ cred (tallyAt (sendCell c 1) () NN)) ∗ atPos ER (sendCell c 0) 0 ∅ 0 ∗ hold (F := F) c) := by
  unfold phase; rw [if_neg (by omega), if_neg (by omega), if_neg (by omega), if_pos h']
theorem phase_at4 (c : Dev nD) (n : ℕ) (h : 24 ≤ n) (h' : n < 32) : phase (F := F) c n = iprop(atPos ER (barCell c) 1 ∅ 0 ∗ (reached ER (exitCell (pe c 0)) 0 ∗ reached ER (exitCell (pe c 1)) 0 ∗ reached ER (exitCell (pe c 2)) 0) ∗ (cred (tallyAt (sendCell c 1) () NN) ∗ cred (tallyAt (sendCell c 2) () NN)) ∗ atPos ER (sendCell c 0) 1 ∅ 0 ∗ hold (F := F) c) := by
  unfold phase; rw [if_neg (by omega), if_neg (by omega), if_neg (by omega), if_neg (by omega), if_pos h']
theorem phase_at5 (c : Dev nD) (n : ℕ) (h : 32 ≤ n) : phase (F := F) c n = closed (F := F) c := by
  unfold phase; rw [if_neg (by omega), if_neg (by omega), if_neg (by omega), if_neg (by omega), if_neg (by omega)]
theorem outPart_at (c : Dev nD) (n : ℕ) (h : n < 32) : outPart m c n = iprop(∃ g : Buf (Elt F) ((c : Thread nD τ).loc main_v10), ((c : Thread nD τ).loc main_v10) ↦{fullShare} g) := if_pos h
theorem outPart_end (c : Dev nD) (n : ℕ) (h : 32 ≤ n) : outPart m c n = iprop(((c : Thread nD τ).loc main_v10) ↦{fullShare} outVal m c) := if_neg (by omega)

variable (arg3 : Memref sig .tc .vmem S2048x1024 .f32) (harg3 : arg3.IsWhole) (arg4 : Memref sig .tc .vmem S1024x1024 .f32) (harg4 : arg4.IsWhole)

/-- What the body is given at point `t`, and what it leaves. -/
def bodyPre (c : Dev nD) (t : Fin grid0.N) : sProp 𝕄 :=
  iprop(phi m c t.val ∗ (∃ W, owes (c : Thread nD τ) (owe c (owedN t.val)) W) ∗ blocks m arg3 arg4 c t.val)
def bodyPost (c : Dev nD) (t : Fin grid0.N) : sProp 𝕄 :=
  iprop(phi m c (t.val + 1) ∗ (∃ W, owes (c : Thread nD τ) (owe c (owedN (t.val + 1))) W) ∗ blocks m arg3 arg4 c t.val)

theorem sound_mid (c : Dev nD) (t : Fin grid0.N) (h0 : t.val % 8 ≠ 0) (h7 : t.val % 8 ≠ 7) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val < 32 := lt_of_lt_of_eq t.isLt N_0
  unfold bodyPre bodyPost phi
  rw [phase_succ (F := F) c t.val (by omega) h7 ht, outPart_succ m c t.val (by omega), owedN_succ t.val (by omega) h7 ht, accPart_later m c t.val h0, accPart_later m c (t.val + 1) (by omega), Nat.add_sub_cancel]
  iintro ⟨⟨%K, #HP, Ht, Hv, HA, Ho, Hp⟩, HO, HB⟩
  iapply (wp_body_mid m arg3 harg3 arg4 harg4 c t h0 h7) $$ [HB HA]
  · isplitl [HB] <;> iassumption
  iintro ⟨HB, HA⟩
  isplitl [Ht Hv HA Ho Hp]
  · iexists K
    isplitr; · iexact HP
    iframe Ht Hv HA Ho Hp
  iframe HO HB

theorem sound_first (c : Dev nD) (t : Fin grid0.N) (hz : t.val ≠ 0) (h0 : t.val % 8 = 0) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val < 32 := lt_of_lt_of_eq t.isLt N_0
  unfold bodyPre bodyPost phi
  rw [phase_succ (F := F) c t.val (by omega) (by omega) ht, outPart_succ m c t.val (by omega), owedN_succ t.val (by omega) (by omega) ht, accPart_first m c t.val h0, accPart_later m c (t.val + 1) (by omega), Nat.add_sub_cancel]
  iintro ⟨⟨%K, #HP, Ht, Hv, HA, Ho, Hp⟩, HO, HB⟩
  iapply (wp_body_first m arg3 harg3 arg4 harg4 c t hz h0) $$ [HB HA]
  · isplitl [HB] <;> iassumption
  iintro ⟨HB, HA⟩
  isplitl [Ht Hv HA Ho Hp]
  · iexists K
    isplitr; · iexact HP
    iframe Ht Hv HA Ho Hp
  iframe HO HB

theorem sound_zero (c : Dev nD) (t : Fin grid0.N) (hz : t.val = 0) :
    bodyPre m arg3 arg4 c t ⊢ wp frame (wpE (defs₀ (F := F)) 𝒱₀ (c : Thread nD τ) none) Set.univ (bodyAt arg3 harg3 arg4 harg4 t) (fun _ => bodyPost m arg3 arg4 c t) := by
  unfold bodyPre bodyPost phi
  rw [phase_at1 (F := F) c (t.val + 1) (by omega) (by omega), show phase (F := F) c t.val = phase (F := F) c 0 by rw [hz], phase_at0, outPart_succ m c t.val (by omega), show owedN t.val = 9 by rw [hz]; rfl, show owedN (t.val + 1) = 6 by rw [hz]; rfl, accPart_first m c t.val (by omega), accPart_later m c (t.val + 1) (by omega), Nat.add_sub_cancel]
  iintro ⟨⟨%K, #HP, Ht, Hv, HA, Ho, Hbar, Htok, Hsp, Hs0, Hh⟩, ⟨%W, HO⟩, HB⟩
  iapply (wp_body_zero m K arg3 harg3 arg4 harg4 c t hz W) $$ [HB HA HO Hbar]
  · isplitr; · iexact HP
    iframe Hbar HO HB HA
  iintro ⟨⟨Hbar, Hg0, Hg1, Hg2⟩, HO, HB, HA⟩
  isplitl [Ht Hv HA Ho Htok Hsp Hs0 Hh Hbar Hg0 Hg1 Hg2]
  · iexists K
    isplitr; · iexact HP
    iframe Ht Hv HA Ho Htok Hsp Hs0 Hh Hbar Hg0 Hg1 Hg2
  iframe HB
  iexists _; iexact HO

theorem sound_send0 (c : Dev nD) (t : Fin grid0.N) (h6 : t.val % 8 = 7) (hs : t.val / 8 = 0) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val = 7 := by omega
  unfold bodyPre bodyPost phi
  rw [phase_at1 (F := F) c t.val (by omega) (by omega), phase_at2 (F := F) c (t.val + 1) (by omega) (by omega), outPart_succ m c t.val (by omega), show owedN t.val = 6 by rw [ht]; rfl, show owedN (t.val + 1) = 5 by rw [ht]; rfl, accPart_later m c t.val (by omega), accPart_first m c (t.val + 1) (by omega)]
  iintro ⟨⟨%K, #HP, Ht, Hv, HA, Ho, Hbar, ⟨Hg0, Hg⟩, ⟨Htok0, Htok⟩, ⟨Hsp0, Hsp⟩, Hs0, Hh⟩, ⟨%W, HO⟩, HB⟩
  iapply (wp_body_send0 m K arg3 harg3 arg4 harg4 c t h6 hs W) $$ [Ht HB HA HO Hg0 Htok0 Hsp0]
  · isplitr; · iexact HP
    iframe Ht HB HA HO Hg0 Htok0 Hsp0
  iintro ⟨Ht, HB, HA, HO, He, Hc⟩
  isplitl [Ht Hv HA Ho Htok Hsp Hs0 Hh Hbar Hg He Hc]
  · iexists K
    isplitr; · iexact HP
    iframe Ht Hv HA Ho Htok Hsp Hs0 Hh Hbar Hg He Hc
  iframe HB
  iexists _; iexact HO

theorem sound_send1 (c : Dev nD) (t : Fin grid0.N) (h6 : t.val % 8 = 7) (hs : t.val / 8 = 1) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val = 15 := by omega
  unfold bodyPre bodyPost phi
  rw [phase_at2 (F := F) c t.val (by omega) (by omega), phase_at3 (F := F) c (t.val + 1) (by omega) (by omega), outPart_succ m c t.val (by omega), show owedN t.val = 5 by rw [ht]; rfl, show owedN (t.val + 1) = 4 by rw [ht]; rfl, accPart_later m c t.val (by omega), accPart_first m c (t.val + 1) (by omega)]
  iintro ⟨⟨%K, #HP, Ht, Hv, HA, Ho, Hbar, He0, ⟨Hg1, Hg⟩, ⟨Htok1, Htok⟩, Hsp1, Hc0, Hs0, Hh⟩, ⟨%W, HO⟩, HB⟩
  iapply (wp_body_send1 m K arg3 harg3 arg4 harg4 c t h6 hs W) $$ [Ht HB HA HO Hg1 Htok1 Hsp1]
  · isplitr; · iexact HP
    iframe Ht HB HA HO Hg1 Htok1 Hsp1
  iintro ⟨Ht, HB, HA, HO, He, Hc⟩
  isplitl [Ht Hv HA Ho Htok Hs0 Hh Hbar Hg He0 He Hc0 Hc]
  · iexists K
    isplitr; · iexact HP
    iframe Ht Hv HA Ho Htok Hs0 Hh Hbar Hg He0 He Hc0 Hc
  iframe HB
  iexists _; iexact HO

theorem sound_send2 (c : Dev nD) (t : Fin grid0.N) (h6 : t.val % 8 = 7) (hs : t.val / 8 = 2) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val = 23 := by omega
  unfold bodyPre bodyPost phi
  rw [phase_at3 (F := F) c t.val (by omega) (by omega), phase_at4 (F := F) c (t.val + 1) (by omega) (by omega), outPart_succ m c t.val (by omega), show owedN t.val = 4 by rw [ht]; rfl, show owedN (t.val + 1) = 3 by rw [ht]; rfl, accPart_later m c t.val (by omega), accPart_first m c (t.val + 1) (by omega)]
  iintro ⟨⟨%K, #HP, Ht, Hv, HA, Ho, Hbar, ⟨He0, He1⟩, Hg, Htok, ⟨Hc0, Hc1⟩, Hs0, Hh⟩, ⟨%W, HO⟩, HB⟩
  iapply (wp_body_send2 m K arg3 harg3 arg4 harg4 c t h6 hs W) $$ [Ht HB HA HO Hg Htok Hc0 Hs0]
  · isplitr; · iexact HP
    iframe Ht HB HA HO Hg Htok Hc0 Hs0
  iintro ⟨Ht, HB, HA, HO, He, Hc, Hs0⟩
  isplitl [Ht Hv HA Ho Hs0 Hh Hbar He0 He1 He Hc1 Hc]
  · iexists K
    isplitr; · iexact HP
    iframe Ht Hv HA Ho Hs0 Hh Hbar He0 He1 He Hc1 Hc
  iframe HB
  iexists _; iexact HO

theorem sound_last (c : Dev nD) (t : Fin grid0.N) (h6 : t.val % 8 = 7) (hs : t.val / 8 = 3) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val = 31 := by omega
  unfold bodyPre bodyPost phi
  rw [phase_at4 (F := F) c t.val (by omega) (by omega), phase_at5 (F := F) c (t.val + 1) (by omega), outPart_at m c t.val (by omega), outPart_end m c (t.val + 1) (by omega), show owedN t.val = 3 by rw [ht]; rfl, show owedN (t.val + 1) = 0 by rw [ht]; rfl, accPart_later m c t.val (by omega), accPart_first m c (t.val + 1) (by omega)]
  iintro ⟨⟨%K, #HP, Ht, Hv, HA, Ho, Hbar, He, ⟨Hc1, Hc2⟩, Hs0, Hh⟩, ⟨%W, HO⟩, HB⟩
  iapply (wp_fupd frame (wpE (defs₀ (F := F)) 𝒱₀ (c : Thread nD τ) none) Set.univ)
  iapply (wp_body_last m K arg3 harg3 arg4 harg4 c t h6 hs W) $$ [Ht HB HA HO Hv Ho Hh He Hc1 Hc2]
  · isplitr; · iexact HP
    iframe Ht HB HA HO Hv Ho Hh He Hc1 Hc2
  iintro ⟨Ht, HB, HA, HO, Hv, Ho, Hd⟩
  imod (close_all m K c) $$ [Hbar Hs0 Hd] with Hcl
  · isplitr; · iexact HP
    iframe Hbar Hs0 Hd
  imodintro
  isplitl [Ht Hv HA Ho Hcl]
  · iexists K
    isplitr; · iexact HP
    iframe Ht Hv HA Ho Hcl
  iframe HB HO

theorem sound_body (c : Dev nD) (t : Fin grid0.N) :
    bodyPre m arg3 arg4 c t ⊢ wp frame (wpE (defs₀ (F := F)) 𝒱₀ (c : Thread nD τ) none) Set.univ (bodyAt arg3 harg3 arg4 harg4 t) (fun _ => bodyPost m arg3 arg4 c t) := by
  have ht : t.val < 32 := lt_of_lt_of_eq t.isLt N_0
  by_cases hz : t.val = 0
  · exact sound_zero m arg3 harg3 arg4 harg4 c t hz
  by_cases h0 : t.val % 8 = 0
  · exact sound_first m arg3 harg3 arg4 harg4 c t hz h0
  by_cases h7 : t.val % 8 = 7
  · by_cases hs : t.val / 8 = 0
    · exact sound_send0 m arg3 harg3 arg4 harg4 c t h7 hs
    by_cases hs1 : t.val / 8 = 1
    · exact sound_send1 m arg3 harg3 arg4 harg4 c t h7 hs1
    by_cases hs2 : t.val / 8 = 2
    · exact sound_send2 m arg3 harg3 arg4 harg4 c t h7 hs2
    exact sound_last m arg3 harg3 arg4 harg4 c t h7 (by omega)
  exact sound_mid m arg3 harg3 arg4 harg4 c t h0 h7

/-- The body discharges its obligation at every point. -/
theorem body_obligation (c : Dev nD) : Pipeline.BodyObligation (dats m 0 c) (defs₀ (F := F)) 𝒱₀ () Set.univ := fun t => by
  rw [bigSep_W0, bigSep_W0]
  simp only [before0, before1]
  rw [show (dats m 0 c).Φ t.castSucc = phi m c t.val from rfl, show (dats m 0 c).Φ t.succ = phi m c (t.val + 1) from rfl]
  show _ ⊢ wp frame (wpE (defs₀ (F := F)) 𝒱₀ (c : Thread nD τ) none) Set.univ
    (bodyAt (((cfgc (F := F) c).win (0 : Fin 2)).stage ((cfgc (F := F) c).slots t 0)) (hstage0_0 (((cfgc (F := F) c).slots t 0).cast nbuf0_0))
      (((cfgc (F := F) c).win (1 : Fin 2)).stage ((cfgc (F := F) c).slots t 1)) (hstage0_1 (((cfgc (F := F) c).slots t 1).cast nbuf0_1)) t) _
  iintro ⟨HP, HO, ⟨%d0, H0⟩, ⟨%d1, H1⟩⟩
  unfold Dat.owesAt Pipeline.owesWithin
  icases HO with ⟨%W, %hW, HO⟩
  iapply (wp_wand frame (wpE (defs₀ (F := F)) 𝒱₀ (c : Thread nD τ) none) Set.univ) $$ [HP HO H0 H1]
  · iapply (sound_body m (((cfgc (F := F) c).win (0 : Fin 2)).stage ((cfgc (F := F) c).slots t 0)) (hstage0_0 (((cfgc (F := F) c).slots t 0).cast nbuf0_0))
      (((cfgc (F := F) c).win (1 : Fin 2)).stage ((cfgc (F := F) c).slots t 1)) (hstage0_1 (((cfgc (F := F) c).slots t 1).cast nbuf0_1)) c t)
    unfold bodyPre
    isplitl [HP]; · iexact HP
    isplitl [HO]; · iexists W; iexact HO
    isplitl [H0]; · iexact H0
    iexact H1
  iintro %v HQ
  unfold bodyPost
  icases HQ with ⟨HP, ⟨%W', HO⟩, H0, H1⟩
  isplitl [HP]; · iexact HP
  isplitl [HO]
  · iexists W'
    isplitr; · ipureintro; exact fun _ _ => Or.inl trivial
    iexact HO
  isplitl [H0]; · iexact H0
  iexact H1

end Cert.A2A
-- ==== Proof.Ghost.lean ====
/-
# What every device starts with

The cells' invariants and tokens made at the launch, the credits that come with what the devices owe, and the share
of both that each device carries through the host operations to the kernel.
-/
module

public import proofs.«01_k».proof.Proof.State

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## The kernel's own semaphores -/

def osem : Fin 8 → SemLoc sig
  | 0 => .reg exitS
  | 1 => .dma (sendS 0)
  | 2 => .dma (sendS 1)
  | 3 => .dma (sendS 2)
  | 4 => .dma (recvS 0)
  | 5 => .dma (recvS 1)
  | 6 => .dma (recvS 2)
  | 7 => .dma locS

theorem ownSemFacts : Pipeline.OwnSemFacts spec0 osem := by decide

theorem ownSems_eq (c : Dev nD) : (Pipeline.ownSems0 osem c : sProp 𝕄)
    = iprop(semVal (exitCell c) 0 ∗ semVal (sendCell c 0) 0 ∗ semVal (sendCell c 1) 0 ∗ semVal (sendCell c 2) 0
      ∗ semVal (recvCell c 0) 0 ∗ semVal (recvCell c 1) 0 ∗ semVal (recvCell c 2) 0 ∗ semVal ((c : Thread nD τ), .dma locS) 0) := by
  unfold Pipeline.ownSems0
  exact bigSep_univ_eq_bigSepL ([0, 1, 2, 3, 4, 5, 6, 7] : List (Fin 8)) (by decide) (by decide) _

/-! ## The launch element -/

/-- A cell whose counter the kernel is handed only when it starts. -/
def dcell (x : Dev nD × Fin 7) : GSem nD τ sig := ((x.1 : Thread nD τ), osem x.2.castSucc)

/-- The units device `c` pays, by their receiver's cell. -/
def tokAt (x : Dev nD × Fin 12) : GSem nD τ sig × ℕ × Fin 3 :=
  let c := x.1
  match x.2 with
  | 0 => (barCell (sr c 0), 0, 0)
  | 1 => (barCell (sr c 1), 0, 1)
  | 2 => (barCell (sr c 2), 0, 2)
  | 3 => (exitCell (pe c 0), 0, 0)
  | 4 => (exitCell (pe c 1), 0, 1)
  | 5 => (exitCell (pe c 2), 0, 2)
  | 6 => (sendCell c 0, 0, 0)
  | 7 => (sendCell c 1, 0, 0)
  | 8 => (sendCell c 2, 0, 0)
  | 9 => (recvCell (pe c 0) 0, 0, 0)
  | 10 => (recvCell (pe c 1) 1, 0, 0)
  | 11 => (recvCell (pe c 2) 2, 0, 0)

theorem dcell_inj : Function.Injective dcell := by decide +kernel
theorem tokAt_inj : Function.Injective tokAt := by decide +kernel
theorem bar_inj : Function.Injective barCell := by decide +kernel
theorem bar_dcell : ∀ c x, barCell c ≠ dcell x := by decide +kernel

def Sb : Finset (GSem nD τ sig) := Finset.univ.map ⟨barCell, bar_inj⟩
def Sd : Finset (GSem nD τ sig) := Finset.univ.map ⟨dcell, dcell_inj⟩
def Tk : Finset (GSem nD τ sig × ℕ × Fin 3) := Finset.univ.map ⟨tokAt, tokAt_inj⟩

theorem Sb_Sd : Disjoint Sb Sd := by
  rw [Finset.disjoint_left]
  intro g h1 h2
  obtain ⟨c, -, e1⟩ := Finset.mem_map.mp h1
  obtain ⟨x, -, e2⟩ := Finset.mem_map.mp h2
  exact bar_dcell c x (e1.trans e2.symm)

theorem bar_mem (c : Dev nD) : barCell c ∈ Sb ∪ Sd :=
  Finset.mem_union_left _ (Finset.mem_map.mpr ⟨c, Finset.mem_univ _, rfl⟩)
theorem dcell_mem (x : Dev nD × Fin 7) : dcell x ∈ Sb ∪ Sd :=
  Finset.mem_union_right _ (Finset.mem_map.mpr ⟨x, Finset.mem_univ _, rfl⟩)

/-! ## The shares -/

/-- The unopened cells of device `c`; -/
def opens (c : Dev nD) : sProp 𝕄 :=
  iprop(openTok ER (exitCell c) ∗ openTok ER (sendCell c 0) ∗ openTok ER (sendCell c 1) ∗ openTok ER (sendCell c 2)
    ∗ openTok ER (recvCell c 0) ∗ openTok ER (recvCell c 1) ∗ openTok ER (recvCell c 2))
/-- its duties; -/
def toks (c : Dev nD) : sProp 𝕄 :=
  iprop((dutyTok ER (barCell (sr c 0)) 0 0 ∗ dutyTok ER (barCell (sr c 1)) 0 1 ∗ dutyTok ER (barCell (sr c 2)) 0 2)
    ∗ (dutyTok ER (exitCell (pe c 0)) 0 0 ∗ dutyTok ER (exitCell (pe c 1)) 0 1 ∗ dutyTok ER (exitCell (pe c 2)) 0 2)
    ∗ tok c 0 ∗ tok c 1 ∗ tok c 2)
/-- everything made at the launch; -/
def ghost (c : Dev nD) : sProp 𝕄 :=
  iprop((∃ K : GSem nD τ sig → ℕ, invs m K) ∗ atPos ER (barCell c) 0 ∅ 0 ∗ opens c ∗ toks c)
/-- the credits that come with the devices' debts. -/
def creds (c : Dev nD) : sProp 𝕄 :=
  iprop(cred (tallyAt (barCell c) () 3) ∗ cred (tallyAt (exitCell c) () 3) ∗ cred (tallyAt (recvCell c 0) () NN)
    ∗ cred (tallyAt (recvCell c 1) () NN) ∗ cred (tallyAt (recvCell c 2) () NN))

theorem bar_all (Φ : GSem nD τ sig → sProp 𝕄) : (bigSep Sb Φ : sProp 𝕄) = bigSep Finset.univ fun c : Dev nD => Φ (barCell c) := by
  unfold Sb; rw [bigSep_map]; rfl

theorem opens_eq : (bigSep Sd (fun g => openTok ER g) : sProp 𝕄) = bigSep Finset.univ fun c : Dev nD => opens c := by
  unfold Sd
  rw [bigSep_map]
  rw [bigSep_univ_prod]
  refine bigSep_congr fun c _ => ?_
  rw [bigSep_univ_eq_bigSepL ([0, 1, 2, 3, 4, 5, 6] : List (Fin 7)) (by decide) (by decide)]
  rfl

theorem toks_eq : (bigSep Tk (fun x => dutyTok ER x.1 x.2.1 x.2.2) : sProp 𝕄) ⊢ bigSep Finset.univ fun c : Dev nD => toks c := by
  unfold Tk
  rw [bigSep_map]
  rw [bigSep_univ_prod]
  refine bigSep_mono fun c _ => ?_
  rw [bigSep_univ_eq_bigSepL ([0, 1, 2, 3, 4, 5, 6, 7, 8, 9, 10, 11] : List (Fin 12)) (by decide) (by decide)]
  show iprop(dutyTok ER (barCell (sr c 0)) 0 0 ∗ dutyTok ER (barCell (sr c 1)) 0 1 ∗ dutyTok ER (barCell (sr c 2)) 0 2
    ∗ dutyTok ER (exitCell (pe c 0)) 0 0 ∗ dutyTok ER (exitCell (pe c 1)) 0 1 ∗ dutyTok ER (exitCell (pe c 2)) 0 2
    ∗ dutyTok ER (sendCell c 0) 0 0 ∗ dutyTok ER (sendCell c 1) 0 0 ∗ dutyTok ER (sendCell c 2) 0 0
    ∗ dutyTok ER (recvCell (pe c 0) 0) 0 0 ∗ dutyTok ER (recvCell (pe c 1) 1) 0 0 ∗ dutyTok ER (recvCell (pe c 2) 2) 0 0) ⊢ _
  unfold toks tok
  iintro ⟨B0, B1, B2, E0, E1, E2, S0, S1, S2, R0, R1, R2⟩
  isplitl [B0 B1 B2]
  · isplitl [B0]; · iexact B0
    isplitl [B1]; · iexact B1
    iexact B2
  isplitl [E0 E1 E2]
  · isplitl [E0]; · iexact E0
    isplitl [E1]; · iexact E1
    iexact E2
  isplitl [S0 R0]
  · isplitl [S0]; · iexact S0
    iexact R0
  isplitl [S1 R1]
  · isplitl [S1]; · iexact S1
    iexact R1
  isplitl [S2]; · iexact S2
  iexact R2

theorem all_elim {I : Type} [DecidableEq I] {s : Finset I} {i : I} (h : i ∈ s) (Φ : I → sProp 𝕄) : (bigSep s Φ : sProp 𝕄) ⊢ Φ i :=
  bigSep_elim h

/-- Copies of something persistent for every device. -/
theorem all_of {I : Type} [DecidableEq I] (s : Finset I) (P : sProp 𝕄) [BI.Persistent P] (Φ : I → sProp 𝕄) (h : ∀ i, P ⊢ Φ i) :
    (P : sProp 𝕄) ⊢ bigSep s Φ := by
  induction s using Finset.induction_on with
  | empty => rw [bigSep_empty]; iintro -; iempintro
  | insert i s hi ih =>
    rw [show bigSep (insert i s) Φ = iprop(Φ i ∗ bigSep s Φ) from bigSep_insert hi]
    iintro #H
    isplitl
    · iapply (h i); iexact H
    · iapply ih; iexact H

def famInv : sProp 𝕄 :=
  iprop(bigSep (Sb ∪ Sd) (fun g => cellInv ER (Rd m) (K g) g) ∗ bigSep Sb (fun g => reached ER g 0))

instance famInv_persistent : BI.Persistent (famInv m K) := by unfold famInv; infer_instance

theorem fam_cell (g : GSem nD τ sig) (h : g ∈ Sb ∪ Sd) : famInv m K ⊢ cellInv ER (Rd m) (K g) g := by
  unfold famInv
  iintro ⟨H, -⟩
  iapply (all_elim h fun g => cellInv ER (Rd m) (K g) g)
  iexact H
theorem fam_reached (c : Dev nD) : famInv m K ⊢ reached ER (barCell c) 0 := by
  unfold famInv
  iintro ⟨-, H⟩
  iapply (all_elim (Finset.mem_map.mpr ⟨c, Finset.mem_univ _, rfl⟩ : barCell c ∈ Sb) fun g => (reached ER g 0 : sProp 𝕄))
  iexact H

theorem fam_invs : famInv m K ⊢ invs m K := by
  unfold invs
  refine all_of _ _ _ fun c => ?_
  unfold invs1
  iintro #H
  isplitl
  · iapply (fam_cell m K _ (bar_mem c)); iexact H
  isplitl
  · iapply (fam_reached m K c); iexact H
  isplitl
  · iapply (fam_cell m K _ (dcell_mem (c, 0))); iexact H
  rw [bigSep_fin3]
  isplitl
  · isplitl
    · iapply (fam_cell m K _ (dcell_mem (c, 1))); iexact H
    · iapply (fam_cell m K _ (dcell_mem (c, 4))); iexact H
  isplitl
  · isplitl
    · iapply (fam_cell m K _ (dcell_mem (c, 2))); iexact H
    · iapply (fam_cell m K _ (dcell_mem (c, 5))); iexact H
  isplitl
  · iapply (fam_cell m K _ (dcell_mem (c, 3))); iexact H
  · iapply (fam_cell m K _ (dcell_mem (c, 6))); iexact H

theorem invs_any : invs m K ⊢ (iprop(∃ K : GSem nD τ sig → ℕ, invs m K) : sProp 𝕄) := by
  iintro H; iexists K; iexact H

/-- The launch element, with every barrier's counter at zero, makes every device's share. -/
theorem fund : iprop((bigSep Finset.univ fun c : Dev nD => semVal (barCell c) 0) ∗ BI.own (ER (F := F) (launchOf Sb Sd Tk)))
    ⊢ (|={Set.univ}=> bigSep Finset.univ fun c : Dev nD => ghost m c : sProp 𝕄) := by
  iintro ⟨Hv, Hu⟩
  imod (fund_launch ER (Rd m) Sb_Sd (fun _ _ h => h) Tk) $$ [Hv Hu] with ⟨%K, -, Hi, Hr, Hat, Hop, Htk⟩
  · isplitl [Hv]
    · iapply (Entails.of_eq (bar_all fun g => (semVal g 0 : sProp 𝕄)).symm); iexact Hv
    · iexact Hu
  ihave Hf : iprop(famInv m K) $$ [Hi Hr]
  · unfold famInv; isplitl [Hi]
    · iexact Hi
    · iexact Hr
  ihave Hi := (fam_invs m K) $$ Hf
  ihave Hi : iprop(bigSep Finset.univ fun _ : Dev nD => iprop(∃ K : GSem nD τ sig → ℕ, invs m K)) $$ [Hi]
  · iapply (all_of Finset.univ (invs m K) (fun _ : Dev nD => iprop(∃ K : GSem nD τ sig → ℕ, invs m K)) (fun _ => invs_any m K))
    iexact Hi
  ihave Ht := toks_eq $$ Htk
  imodintro
  unfold ghost
  rw [bigSep_sep', bigSep_sep', bigSep_sep', ← opens_eq]
  isplitl [Hi]; · iexact Hi
  isplitl [Hat]
  · iapply (Entails.of_eq (bar_all fun g => (atPos ER g 0 ∅ 0 : sProp 𝕄))); iexact Hat
  isplitl [Hop]; · iexact Hop
  iexact Ht

/-! ## The credits -/

theorem cred_three (g : GSem nD τ sig) : (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) by
    rw [tallyAt_add, tallyAt_add]]
  iintro ⟨H0, H1, H2⟩
  iapply (cred_add _ _).2
  isplitl [H0]; · iexact H0
  iapply (cred_add _ _).2
  isplitl [H1]; · iexact H1
  iexact H2

theorem owe_cred (c : Dev nD) (n : ℕ) : (Pipeline.launchCred (fun d => owe d (n + 1)) c : sProp 𝕄)
    = iprop(Pipeline.launchCred (fun d => owe d n) c ∗ Pipeline.launchCred (fun d => tallyAt (payCell d n) () (payAmt n)) c) :=
  Pipeline.launchCred_add (fun d => owe d n) (fun d => tallyAt (payCell d n) () (payAmt n)) c

theorem creds_of (c : Dev nD) : (Pipeline.launchCred O₀ c : sProp 𝕄) ⊢ creds c := by
  show Pipeline.launchCred (fun d => owe d 9) c ⊢ _
  rw [owe_cred, owe_cred, owe_cred, owe_cred, owe_cred, owe_cred, owe_cred, owe_cred, owe_cred]
  show iprop(((((((((Pipeline.launchCred (fun d => owe d 0) c
    ∗ Pipeline.launchCred (fun d => tallyAt ((pe d 2 : Thread nD τ), .reg exitS) () 1) c)
    ∗ Pipeline.launchCred (fun d => tallyAt ((pe d 1 : Thread nD τ), .reg exitS) () 1) c)
    ∗ Pipeline.launchCred (fun d => tallyAt ((pe d 0 : Thread nD τ), .reg exitS) () 1) c)
    ∗ Pipeline.launchCred (fun d => tallyAt ((pe d 2 : Thread nD τ), .dma (recvS 2)) () NN) c)
    ∗ Pipeline.launchCred (fun d => tallyAt ((pe d 1 : Thread nD τ), .dma (recvS 1)) () NN) c)
    ∗ Pipeline.launchCred (fun d => tallyAt ((pe d 0 : Thread nD τ), .dma (recvS 0)) () NN) c)
    ∗ Pipeline.launchCred (fun d => tallyAt ((sr d 0 : Thread nD τ), .reg barS) () 1) c)
    ∗ Pipeline.launchCred (fun d => tallyAt ((sr d 1 : Thread nD τ), .reg barS) () 1) c)
    ∗ Pipeline.launchCred (fun d => tallyAt ((sr d 2 : Thread nD τ), .reg barS) () 1) c) ⊢ _
  iintro ⟨⟨⟨⟨⟨⟨⟨⟨⟨-, X2⟩, X1⟩, X0⟩, R2⟩, R1⟩, R0⟩, B0⟩, B1⟩, B2⟩
  unfold creds
  ihave X2 := (Pipeline.launchCred_tallyAt (.reg exitS) (fun d => pe d 2) (fun d => sr d 2) (fun c => pe_sr c 2) (fun c => sr_pe c 2) () 1 c) $$ X2
  ihave X1 := (Pipeline.launchCred_tallyAt (.reg exitS) (fun d => pe d 1) (fun d => sr d 1) (fun c => pe_sr c 1) (fun c => sr_pe c 1) () 1 c) $$ X1
  ihave X0 := (Pipeline.launchCred_tallyAt (.reg exitS) (fun d => pe d 0) (fun d => sr d 0) (fun c => pe_sr c 0) (fun c => sr_pe c 0) () 1 c) $$ X0
  ihave R2 := (Pipeline.launchCred_tallyAt (.dma (recvS 2)) (fun d => pe d 2) (fun d => sr d 2) (fun c => pe_sr c 2) (fun c => sr_pe c 2) () NN c) $$ R2
  ihave R1 := (Pipeline.launchCred_tallyAt (.dma (recvS 1)) (fun d => pe d 1) (fun d => sr d 1) (fun c => pe_sr c 1) (fun c => sr_pe c 1) () NN c) $$ R1
  ihave R0 := (Pipeline.launchCred_tallyAt (.dma (recvS 0)) (fun d => pe d 0) (fun d => sr d 0) (fun c => pe_sr c 0) (fun c => sr_pe c 0) () NN c) $$ R0
  ihave B0 := (Pipeline.launchCred_tallyAt (.reg barS) (fun d => sr d 0) (fun d => pe d 0) (fun c => sr_pe c 0) (fun c => pe_sr c 0) () 1 c) $$ B0
  ihave B1 := (Pipeline.launchCred_tallyAt (.reg barS) (fun d => sr d 1) (fun d => pe d 1) (fun c => sr_pe c 1) (fun c => pe_sr c 1) () 1 c) $$ B1
  ihave B2 := (Pipeline.launchCred_tallyAt (.reg barS) (fun d => sr d 2) (fun d => pe d 2) (fun c => sr_pe c 2) (fun c => pe_sr c 2) () 1 c) $$ B2
  isplitl [B0 B1 B2]
  · iapply (cred_three (barCell c))
    isplitl [B0]; · iexact B0
    isplitl [B1]; · iexact B1
    iexact B2
  isplitl [X0 X1 X2]
  · iapply (cred_three (exitCell c))
    isplitl [X0]; · iexact X0
    isplitl [X1]; · iexact X1
    iexact X2
  isplitl [R0]; · iexact R0
  isplitl [R1]; · iexact R1
  iexact R2

/-- What device `c` carries to the kernel. -/
def carry (c : Dev nD) : sProp 𝕄 := iprop(ghost m c ∗ creds c ∗ owes (c : Thread nD τ) (O₀ c) ∅)

/-! ## The element the run starts from -/

theorem phinj : Function.Injective (Pipeline.PerCore.cellOf (nD := nD) (τ := τ) (Pipeline.pinD (pcfgs (F := F)) admD)) :=
  Pipeline.PerCore.cellOf_injective _ (fun c p => Pipeline.specSemsDistinct_of_nodup _ (by
      obtain rfl : p = 0 := Subsingleton.elim _ _
      exact semsDistinct 0)) (fun c p p' h => absurd (Subsingleton.elim p p') h)

def u₀ : UU := (initOf (Pipeline.PerCore.cells (Pipeline.pinD (pcfgs (F := F)) admD) phinj) (Pipeline.PerCore.launchToks (Pipeline.pinD (pcfgs (F := F)) admD) phinj),
  (launchOf Sb Sd Tk, (1 : Counters)))

/-- The share of the launch element: all of it with device 0. -/
def G₀ (c : Dev nD) : sProp 𝕄 := if c = 0 then BI.own (ER (launchOf Sb Sd Tk)) else iprop(emp)

theorem G₀_all : (bigSep Finset.univ (G₀ (F := F)) : sProp 𝕄) ⊢ BI.own (ER (launchOf Sb Sd Tk)) :=
  (all_elim (Finset.mem_univ (0 : Dev nD)) G₀).trans (Entails.of_eq (if_pos rfl))

theorem G₀_intro : (BI.own (ER (launchOf Sb Sd Tk)) : sProp 𝕄) ⊢ bigSep Finset.univ (G₀ (F := F)) := by
  rw [bigSep_univ_eq_bigSepL [0, 1, 2, 3] (by decide) (by decide)]
  show _ ⊢ iprop(G₀ 0 ∗ G₀ 1 ∗ G₀ 2 ∗ G₀ 3)
  unfold G₀
  rw [if_pos rfl, if_neg (by decide), if_neg (by decide), if_neg (by decide)]
  iintro H
  isplitl; · iexact H
  isplitl; · iempintro
  isplitl; · iempintro
  iempintro

theorem u₀_split : (ownU (u₀ (F := F)) : sProp 𝕄)
    ⊢ |={Set.univ}=> iprop(BI.own (EP (initOf (Pipeline.PerCore.cells (Pipeline.pinD (pcfgs (F := F)) admD) phinj)
        (Pipeline.PerCore.launchToks (Pipeline.pinD (pcfgs (F := F)) admD) phinj))) ∗ bigSep Finset.univ G₀) := by
  unfold u₀
  iintro H
  ihave H := (ownU_pair _ _) $$ H
  icases H with ⟨Hp, Hr⟩
  ihave Hr := (own_pair_emb embR (launchOf Sb Sd Tk) (1 : Counters)) $$ Hr
  icases Hr with ⟨Hr, -⟩
  imodintro
  isplitl [Hp]; · iexact Hp
  iapply G₀_intro
  iexact Hr

end Cert.A2A
-- ==== Proof.Table.lean ====
/-
# The table of peers, as the host lines compute it
-/
module

public import proofs.«01_k».proof.Proof.Protocol

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-- The sum the first lines leave: the device number, plus one, plus the entry's index. -/
theorem v8_value (c : Dev nD) (i : S4.Idx) : (V1 m c (Proc.devRef .tc main_v8) : (main_v8 : Ref sig .tc).ty.Contents (Elt F)) i
    = IntOp.addi (IntOp.addi (IntOp.remui .host (IntOp.divui .host (Dev.word c) 1#32) 4#32) 1#32) (BitVec.ofNat 32 (i 0).val) := by
  show StableHlo.after (hostOps0 c) (V0 m c) (Proc.devRef .tc main_v8) i = _
  generalize V0 m c = X
  unfold hostOps0
  after_results
  rfl
theorem c2_value (c : Dev nD) : (V1 m c (Proc.devRef .tc main_c_2) : (main_c_2 : Ref sig .tc).ty.Contents (Elt F)) = constantI S_ 32 4#32 := by
  show StableHlo.after (hostOps0 c) (V0 m c) (Proc.devRef .tc main_c_2) = _
  generalize V0 m c = X
  unfold hostOps0
  after_results

/-- One entry of the remainder the last lines compute. -/
def remw (a b : BitVec 32) : BitVec 32 :=
  let b' := Scalar.select (IntOp.cmpi .eq b 0#32) 1#32 b
  let r := IntOp.remsi .host a b'
  Scalar.select (IntOp.andi (IntOp.cmpi .ne (IntOp.cmpi .slt r 0#32) (IntOp.cmpi .slt b' 0#32)) (IntOp.cmpi .ne r 0#32)) (IntOp.addi r b') r

theorem v9_value (X : Valuation τ sig (Elt F)) (hX : (X (Proc.devRef .tc main_c_2) : (main_c_2 : Ref sig .tc).ty.Contents (Elt F)) = constantI S_ 32 4#32) (i : S4.Idx) :
    (StableHlo.after hostOps0_1 X (Proc.devRef .tc main_v9) : (main_v9 : Ref sig .tc).ty.Contents (Elt F)) i
      = remw ((X (Proc.devRef .tc main_v8) : (main_v8 : Ref sig .tc).ty.Contents (Elt F)) i) 4#32 := by
  unfold hostOps0_1
  after_results
  rw [hX]
  rfl

theorem remw_eq (c : Dev nD) (k : Fin 4) :
    remw (IntOp.addi (IntOp.addi (IntOp.remui .host (IntOp.divui .host (Dev.word c) 1#32) 4#32) 1#32) (BitVec.ofNat 32 k.val)) 4#32
      = BitVec.ofNat 32 ((c.val + 1 + k.val) % 4) := by
  revert c k; decide +kernel

/-- Before the region the table in scalar memory is `tblv`. -/
theorem tbl_value (c : Dev nD) : V2 m c (Proc.devRef .tc main_v9) = (tblv c : (main_v9 : Ref sig .tc).ty.Contents (Elt F)) := by
  funext i
  have h := v9_value (V1 m c) (c2_value m c) i
  rw [v8_value] at h
  exact h.trans (remw_eq c (i 0))

end Cert.A2A
-- ==== Proof.Region.lean ====
/-
# The kernel's region

The device's buffers and cells sorted into what the pipeline takes, at entry and at exit.
-/
module

public import proofs.«01_k».proof.Proof.Ghost
public import proofs.«01_k».proof.Proof.Table

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

/-! ## The buffers at entry -/

theorem share_full (c : Dev nD) (w : Fin 2) : (dats m 0 c).share w = fullShare := by
  unfold Dat.share; exact ite_self _

theorem rest_out (c : Dev nD) (V : (b : Ref sig .tc) → Buf (Elt F) ((c : Thread nD τ).loc b)) :
    (Pipeline.unscopedRestP pre0 spec0 c V : sProp 𝕄) ⊢ (((c : Thread nD τ).loc main_v10) ↦{fullShare} V main_v10) := by
  unfold Pipeline.unscopedRestP
  exact bigSep_elim (by decide)

theorem pref_tbl (c : Dev nD) : (Pipeline.prefHeld pre0 c (fun _ => fullShare) (fun k => V2 m c (pre0.ref k)) : sProp 𝕄)
    = Pipeline.prefHeld pre0 c (fun _ => fullShare) (tblC c) := by
  unfold Pipeline.prefHeld
  refine bigSep_congr fun k _ => ?_
  obtain rfl : k = (0 : Fin 1) := Subsingleton.elim _ _
  exact congrArg (fun v => (((c : Thread nD τ).loc main_v9) ↦{fullShare} v : sProp 𝕄)) (tbl_value m c)

theorem pref_at (c : Dev nD) : (Pipeline.prefHeld pre0 c (fun _ => fullShare) (tblC c) : sProp 𝕄) ⊢ tblAt (F := F) c := by
  unfold Pipeline.prefHeld
  exact bigSep_elim (Finset.mem_univ (0 : Fin 1))

/-- What the buffers at entry hold. -/
theorem buffers (c : Dev nD) : (StableHlo.held (c : Thread nD τ) (Pipeline.ucRefs τ sig) (V2 m c) : sProp 𝕄)
    ⊢ iprop((dats m 0 c).arrays ((dats m 0 c).arrAt · 0) ∗ Pipeline.prefHeld pre0 c (fun _ => fullShare) (tblC c)
      ∗ ∃ g : Buf (Elt F) ((c : Thread nD τ).loc main_v10), ((c : Thread nD τ).loc main_v10) ↦{fullShare} g) := by
  rw [← Pipeline.unscopedBufs_held c (V2 m c)]
  refine (Pipeline.PerCore.arrays_of_unscopedBufs (p := (0 : Fin 1)) (pcfgs (F := F)) admD (dats m) winFacts0 arr_whole0 c (share_full m c) (fun b => V2 m c b) (fun w => ?_)).trans ?_
  · fin_cases w
    · exact ((V2_of m c main_arg0 (by decide)).trans ((V1_of m c main_arg0 (by decide)).trans rfl)).symm
    · exact ((V2_of m c main_arg1 (by decide)).trans ((V1_of m c main_arg1 (by decide)).trans rfl)).symm
  refine sep_mono .rfl ?_
  refine (Entails.of_eq (Pipeline.unscopedRest_split preFacts0 c (fun b => V2 m c b))).trans ?_
  iintro ⟨Hp, Hr⟩
  isplitl [Hp]
  · iapply (Entails.of_eq (pref_tbl m c)); iexact Hp
  ihave H := (rest_out c _) $$ Hr
  iexists _
  iexact H

/-! ## The cells at entry -/

/-- What the kernel starts with beside the scratch buffers. -/
def entry (c : Dev nD) : sProp 𝕄 :=
  iprop(∃ K : GSem nD τ sig → ℕ, pers m K c ∗ semVal ((c : Thread nD τ), SemLoc.dma locS) 0
    ∗ (cred (tallyAt (barCell c) () 3) ∗ atPos ER (barCell c) 0 ∅ 0
      ∗ dutyTok ER (barCell (sr c 0)) 0 0 ∗ dutyTok ER (barCell (sr c 1)) 0 1 ∗ dutyTok ER (barCell (sr c 2)) 0 2)
    ∗ (tok (F := F) c 0 ∗ tok (F := F) c 1 ∗ tok (F := F) c 2) ∗ atPos ER (sendCell c 0) 0 ∅ 0 ∗ hold (F := F) c)

theorem inv_exit (c : Dev nD) : invs m K ⊢ cellInv ER (Rd m) (K (exitCell c)) (exitCell c) := by
  unfold invs
  refine (all_elim (Finset.mem_univ c) fun c => invs1 m K c).trans ?_
  unfold invs1
  iintro ⟨-, -, H, -⟩
  iexact H
theorem inv_slots (c : Dev nD) (j : Fin 3) : invs m K ⊢ iprop(cellInv ER (Rd m) (K (sendCell c j)) (sendCell c j) ∗ cellInv ER (Rd m) (K (recvCell c j)) (recvCell c j)) := by
  unfold invs
  refine (all_elim (Finset.mem_univ c) fun c => invs1 m K c).trans ?_
  unfold invs1
  iintro ⟨-, -, -, H⟩
  iapply (all_elim (Finset.mem_univ j) fun j => iprop(cellInv ER (Rd m) (K (sendCell c j)) (sendCell c j) ∗ cellInv ER (Rd m) (K (recvCell c j)) (recvCell c j)))
  iexact H

theorem open_cells (c : Dev nD) : iprop((ghost m c ∗ creds c) ∗ Pipeline.ownSems0 osem c ∗ levAts L lv)
    ⊢ (iprop(|={Set.univ}=> entry m c) : sProp 𝕄) := by
  rw [ownSems_eq]
  unfold ghost opens toks creds
  iintro ⟨⟨⟨⟨%K, #HI⟩, Hb, ⟨Tx, Ts0, Ts1, Ts2, Tr0, Tr1, Tr2⟩, ⟨B0, B1, B2⟩, HX, Htok⟩, ⟨Cb, Cx, C0, C1, C2⟩⟩, ⟨Vx, Vs0, Vs1, Vs2, Vr0, Vr1, Vr2, Vl⟩, #HL⟩
  ihave #IX := (inv_exit m K c) $$ HI
  ihave #I0 := (inv_slots m K c 0) $$ HI
  ihave #I1 := (inv_slots m K c 1) $$ HI
  ihave #I2 := (inv_slots m K c 2) $$ HI
  icases I0 with ⟨IS0, IR0⟩
  icases I1 with ⟨IS1, IR1⟩
  icases I2 with ⟨IS2, IR2⟩
  imod (Rounds.cell_open ER (Rd m) (Set.mem_univ (K (exitCell c)))) $$ [Tx Vx] with ⟨Ax, #Rx⟩
  · iframe IX Tx Vx
  imod (Rounds.cell_open ER (Rd m) (Set.mem_univ (K (sendCell c 0)))) $$ [Ts0 Vs0] with ⟨As0, #Rs0⟩
  · iframe IS0 Ts0 Vs0
  imod (Rounds.cell_open ER (Rd m) (Set.mem_univ (K (sendCell c 1)))) $$ [Ts1 Vs1] with ⟨As1, #Rs1⟩
  · iframe IS1 Ts1 Vs1
  imod (Rounds.cell_open ER (Rd m) (Set.mem_univ (K (sendCell c 2)))) $$ [Ts2 Vs2] with ⟨As2, #Rs2⟩
  · iframe IS2 Ts2 Vs2
  imod (Rounds.cell_open ER (Rd m) (Set.mem_univ (K (recvCell c 0)))) $$ [Tr0 Vr0] with ⟨Ar0, #Rr0⟩
  · iframe IR0 Tr0 Vr0
  imod (Rounds.cell_open ER (Rd m) (Set.mem_univ (K (recvCell c 1)))) $$ [Tr1 Vr1] with ⟨Ar1, #Rr1⟩
  · iframe IR1 Tr1 Vr1
  imod (Rounds.cell_open ER (Rd m) (Set.mem_univ (K (recvCell c 2)))) $$ [Tr2 Vr2] with ⟨Ar2, #Rr2⟩
  · iframe IR2 Tr2 Vr2
  imodintro
  unfold entry pers hold
  rw [bigSep_fin3]
  iexists K
  isplitr
  · iframe HI HL Rx Rs0 Rs1 Rs2 Rr0 Rr1 Rr2
  iframe Vl Cb Hb B0 B1 B2 Htok As0 C0 Ar0 C1 Ar1 C2 Ar2 Cx Ax HX As1 As2

/-! ## The region -/

/-- What the run of the kernel leaves. -/
def atEnd (c : Dev nD) : sProp 𝕄 :=
  iprop((dats m 0 c).arrays ((dats m 0 c).arrAt · (Pipeline.pinD (pcfgs (F := F)) admD c 0).N)
    ∗ (((c : Thread nD τ).loc main_v10) ↦{fullShare} outVal m c) ∗ semVal (barCell c) 0)

def regionX (c : Dev nD) : sProp 𝕄 :=
  iprop(entry m c ∗ ∃ g : Buf (Elt F) ((c : Thread nD τ).loc main_v10), ((c : Thread nD τ).loc main_v10) ↦{fullShare} g)
def regionY (c : Dev nD) : sProp 𝕄 :=
  iprop((((c : Thread nD τ).loc main_v10) ↦{fullShare} outVal m c) ∗ semVal (barCell c) 0)

theorem region_in (c : Dev nD) : iprop(regionX m c ∗ Pipeline.prefHeld pre0 c (fun _ => fullShare) (tblC c) ∗ Pipeline.scopedRest spec0 c)
    ⊢ phi m c 0 := by
  rw [scopedRest0_eq c]
  unfold phi regionX entry
  rw [phase_at0, outPart_at m c 0 (by omega), accPart_first m c 0 rfl]
  unfold barHold accAny
  iintro ⟨⟨⟨%K, #HP, Vl, ⟨Cb, Hb, B0, B1, B2⟩, Htok, As, Hh⟩, Ho⟩, Ht, HA, HS, HR⟩
  ihave Ht := (pref_at c) $$ Ht
  ihave HS := (send_split (F := F) c) $$ HS
  ihave HR := (recv_split (F := F) c) $$ HR
  icases HR with ⟨R0, R1, R2⟩
  iexists K
  isplitr; · iexact HP
  iframe Ht Vl HA Ho Cb Hb B0 R0 B1 R1 B2 R2 Htok HS As Hh

theorem region_out (c : Dev nD) : phi m c 32 ⊢ iprop(regionY m c ∗ Pipeline.ownSems0 osem c ∗ Pipeline.scopedRest spec0 c) := by
  rw [scopedRest0_eq c, ownSems_eq]
  unfold phi regionY
  rw [phase_at5 (F := F) c 32 (by omega), outPart_end m c 32 (by omega), accPart_first m c 32 rfl]
  unfold closed accAny
  iintro ⟨%K, -, -, Vl, HA, Ho, Zb, Zx, ⟨S0, S1, S2⟩, ⟨R0, R1, R2⟩, HS, HR⟩
  iframe Ho Zb Zx S0 S1 S2 R0 R1 R2 Vl HA HS HR

theorem stage_lvl : ∀ (w : Fin 2) (s : Fin (spec0 w).nbuf), lvl (.dma ((spec0 w).sem s)) = 0 := by decide

theorem stage_waits (c : Dev nD) : (levAts L lv : sProp 𝕄) ⊢ Pipeline.PerCore.cellsWaits (Pipeline.pinD (pcfgs (F := F)) admD) (dats m) () 0 c :=
  Pipeline.PerCore.cellsWaits_intro _ _ () 0 c fun w s t => mayWait_low c _ _ (stage_lvl w s)

theorem region_entry (c : Dev nD) : iprop((StableHlo.held (c : Thread nD τ) (Pipeline.ucRefs τ sig) (V2 m c) ∗ carry m c) ∗ Pipeline.ownSems0 osem c ∗ levAts L lv)
    ⊢ |={Set.univ}=> iprop((dats m 0 c).arrays ((dats m 0 c).arrAt · 0) ∗ Pipeline.prefHeld pre0 c (fun _ => fullShare) (tblC c)
        ∗ (dats m 0 c).owesAt () 0 ∗ regionX m c ∗ emp) := by
  unfold carry
  iintro ⟨⟨Hh, Hg, Hc, HO⟩, HS, HL⟩
  ihave Hh := (buffers m c) $$ Hh
  icases Hh with ⟨HA, Hp, Ho⟩
  imod (open_cells m c) $$ [Hg Hc HS HL] with HX
  · isplitl [Hg Hc]
    · isplitl [Hg] <;> iassumption
    isplitl [HS] <;> iassumption
  imodintro
  isplitl [HA]; · iexact HA
  isplitl [Hp]; · iexact Hp
  isplitl [HO]
  · unfold Dat.owesAt Pipeline.owesWithin
    iexists ∅
    isplitr; · ipureintro; exact fun _ _ => Or.inl trivial
    iexact HO
  isplitl [HX Ho]
  · unfold regionX; isplitl [HX]
    · iexact HX
    · iexact Ho
  iempintro

theorem region_exit (c : Dev nD) : iprop((dats m 0 c).arrays ((dats m 0 c).arrAt · (Pipeline.pinD (pcfgs (F := F)) admD c 0).N)
      ∗ (dats m 0 c).owesAt () (Fin.last (Pipeline.pinD (pcfgs (F := F)) admD c 0).N) ∗ regionY m c ∗ emp)
    ⊢ |={Set.univ}=> iprop(atEnd m c ∗ ∃ W, owes (c : Thread nD τ) (0 : CellTallies nD τ sig Unit) W) := by
  unfold regionY atEnd Dat.owesAt Pipeline.owesWithin
  rw [show (dats m 0 c).owed (Fin.last (Pipeline.pinD (pcfgs (F := F)) admD c 0).N) = 0 by
    show owe c (owedN (Pipeline.pinD (pcfgs (F := F)) admD c 0).N) = 0
    rw [show (Pipeline.pinD (pcfgs (F := F)) admD c 0).N = 32 from N_0]; rfl]
  iintro ⟨HA, ⟨%W, -, HO⟩, ⟨Ho, Hb⟩, -⟩
  imodintro
  isplitl [HA Ho Hb]
  · isplitl [HA]; · iexact HA
    isplitl [Ho] <;> iassumption
  iexists W; iexact HO

def region : Pipeline.PerCore.RegionSeg (pcfgs (F := F)) admD (dats m) () (defs₀ (F := F)) 𝒱₀ L lv 0 where
  win := winFacts0.to₀
  block_pos := block_pos0
  stage_whole := stage_whole0
  K := Fin 8
  osem := osem
  ho := ownSemFacts
  hbody c := (body_obligation m c).loose
  hwaits c := stage_waits m c
  pre c := iprop(StableHlo.held (c : Thread nD τ) (Pipeline.ucRefs τ sig) (V2 m c) ∗ carry m c)
  post c := iprop(atEnd m c ∗ ∃ W, owes (c : Thread nD τ) (0 : CellTallies nD τ sig Unit) W)
  X c := regionX m c
  Y c := regionY m c
  Z _ := iprop(emp)
  hentry c := region_entry m c
  hin c := region_in m c
  hout c := by
    rw [show (dats m 0 c).Φ (Fin.last (Pipeline.pinD (pcfgs (F := F)) admD c 0).N) = phi m c 32 by
      show phi m c (Pipeline.pinD (pcfgs (F := F)) admD c 0).N = phi m c 32
      rw [show (Pipeline.pinD (pcfgs (F := F)) admD c 0).N = 32 from N_0]]
    exact region_out m c
  hexit c := region_exit m c

end Cert.A2A
-- ==== Proof.Run.lean ====
/-
# The whole run

From any memory with all counters at zero, every execution ends with the arguments unchanged, every counter at zero
and `outVal` in every device's result.
-/
module

public import proofs.«01_k».proof.Proof.Region

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ)
variable (K : GSem nD τ sig → ℕ)

def segsK (c : Dev nD) : List (Pipeline.PerCore.Seg (pcfgs (F := F)) admD (dats m) () (defs₀ (F := F)) 𝒱₀ L lv) :=
  [.host (seg0 m 𝒱₀ L lv (fun _ c => carry m c) c), .host (seg1 m 𝒱₀ L lv (fun _ c => carry m c)), .region (region m)]

theorem only_barrier : ∀ sm : SemLoc sig, sm.isScoped .tc = false → sm = .reg barS := by decide

theorem unscoped_bar (c : Dev nD) : (unscopedSems0 c : sProp 𝕄) ⊢ semVal (barCell c) 0 := by
  unfold unscopedSems0
  exact bigSep_elim (by decide)

theorem launch_one (ρ : Dev nD → PrngReg) (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G₀ c)
    ⊢ (iprop(StableHlo.held (c : Thread nD τ) (Pipeline.ucRefs τ sig) (V0 m c) ∗ creds c
        ∗ owes (c : Thread nD τ) (O₀ c) ∅ ∗ semVal (barCell c) 0 ∗ G₀ c) : sProp 𝕄) := by
  rw [← Pipeline.unscopedBufs_held c (V0 m c)]
  iintro ⟨Hb, Hs, HO, Hc, -, HG⟩
  ihave Hs := (unscoped_bar (F := F) c) $$ Hs
  ihave Hc := (creds_of (F := F) c) $$ Hc
  isplitl [Hb]; · iexact Hb
  isplitl [Hc]; · iexact Hc
  isplitl [HO]; · iexact HO
  isplitl [Hs]; · iexact Hs
  iexact HG

theorem launch_split (ρ : Dev nD → PrngReg) : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G₀ c))
    ⊢ (iprop((bigSep Finset.univ fun c : Dev nD => StableHlo.held (c : Thread nD τ) (Pipeline.ucRefs τ sig) (V0 m c)) ∗ (bigSep Finset.univ fun c : Dev nD => creds c)
        ∗ (bigSep Finset.univ fun c : Dev nD => owes (c : Thread nD τ) (O₀ c) ∅) ∗ (bigSep Finset.univ fun c : Dev nD => semVal (barCell c) 0)
        ∗ bigSep Finset.univ fun c : Dev nD => G₀ c) : sProp 𝕄) := by
  rw [← bigSep_sep', ← bigSep_sep', ← bigSep_sep', ← bigSep_sep']
  exact bigSep_mono fun c _ => launch_one m ρ c

theorem launch_join : iprop((bigSep Finset.univ fun c : Dev nD => StableHlo.held (c : Thread nD τ) (Pipeline.ucRefs τ sig) (V0 m c))
      ∗ (bigSep Finset.univ fun c : Dev nD => ghost m c) ∗ (bigSep Finset.univ fun c : Dev nD => creds c)
      ∗ (bigSep Finset.univ fun c : Dev nD => owes (c : Thread nD τ) (O₀ c) ∅))
    ⊢ (bigSep Finset.univ fun c : Dev nD => iprop(StableHlo.held (c : Thread nD τ) (Pipeline.ucRefs τ sig) (V0 m c) ∗ carry m c) : sProp 𝕄) := by
  rw [← bigSep_sep', ← bigSep_sep', ← bigSep_sep']
  exact bigSep_mono fun c _ => by unfold carry; exact BI.Entails.refl _

/-- The launch: every device's buffers, and its share of what the launch makes. -/
theorem launch (ρ : Dev nD → PrngReg) : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G₀ c)) ∗ levAts L lv)
    ⊢ (|={Set.univ}=> bigSep Finset.univ fun c : Dev nD => iprop(StableHlo.held (c : Thread nD τ) (Pipeline.ucRefs τ sig) (V0 m c) ∗ carry m c) : sProp 𝕄) := by
  iintro ⟨H, -⟩
  ihave H := (launch_split m ρ) $$ H
  icases H with ⟨Hh, Hc, HO, Hv, HG⟩
  ihave HG := (G₀_all (F := F)) $$ HG
  imod (fund m) $$ [Hv HG] with Hg
  · isplitl [Hv] <;> iassumption
  imodintro
  iapply (launch_join m)
  isplitl [Hh]; · iexact Hh
  isplitl [Hg]; · iexact Hg
  isplitl [Hc]; · iexact Hc
  iexact HO

/-- What the final state holds of device `c`. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v10) = outVal m c) ∧ s.sem (barCell c) = 0

theorem read_end (c : Dev nD) (s' : Phys nD τ sig (Elt F)) : iprop(atEnd m c ∗ SI s') ⊢ |={Set.univ}=> iprop(⌜Final m c s'.mem⌝ ∗ SI s') := by
  unfold atEnd
  iintro ⟨⟨HA, Ho, Hb⟩, HSI⟩
  icombine HSI Ho gives %ho
  icombine HSI Hb gives %hb
  ihave Hr := (Pipeline.PerCore.arrays_read (p := (0 : Fin 1)) (pcfgs (F := F)) admD (dats m) arr_whole0 c (share_full m c) ((dats m 0 c).arrAt · (Pipeline.pinD (pcfgs (F := F)) admD c 0).N) s') $$ [HA HSI]
  · isplitl [HA]
    · iexact HA
    · iexact HSI
  icases Hr with ⟨%ha, HSI⟩
  imodintro
  isplitr
  · ipureintro
    exact ⟨⟨(ha (0 : Fin 2)).trans ((dats m 0 c).arrAt_in (0 : Fin 2) rfl _), (ha (1 : Fin 2)).trans ((dats m 0 c).arrAt_in (1 : Fin 2) rfl _),
      Buf.eq_of_forall_mem_univ ho⟩, by simpa using hb⟩
  iexact HSI

set_option backward.isDefEq.respectTransparency.types false in
theorem run_main (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v10) = outVal m c) ∧ r.2.sem = fun _ => 0) :=
  Pipeline.PerCore.θ_run_regions_kit_sems (pcfgs (F := F)) admD (dats m) () phinj EP (defs₀ (F := F)) 𝒱₀ L lv m ρ main (segsK m)
    (fun c Q => by
      rewrite [main_chain c, Pipeline.PerCore.Seg.run_eq_chain,
        show (segsK m c).map Pipeline.PerCore.Seg.prog = [
          StableHlo.seq (hostOps0 c),
          StableHlo.seq hostOps0_1,
          Prog.lift (.customCall (Pipeline.entry 0) ()) ] from rfl]
      dsimp (config := { failIfUnchanged := false }) only
      exact .rfl)
    (fun c => by
      simp only [segsK, Pipeline.PerCore.Seg.pipes_host, Pipeline.PerCore.Seg.pipes_region, Pipeline.PerCore.Seg.pipes_nil]; decide)
    O₀ L_of_ne G₀ u₀ u₀_split
    (T₀ := fun c => iprop(StableHlo.held (c : Thread nD τ) (Pipeline.ucRefs τ sig) (V0 m c) ∗ carry m c))
    (Tₙ := fun c => atEnd m c)
    (hch := fun c => ⟨.rfl, .rfl, .rfl, .rfl⟩)
    (hinit := launch m ρ)
    (QY := fun c s => Final m c s)
    (hfin := fun c s' => read_end m c s')
    (hQ := fun s h hs => ⟨fun c => (h c).1, sem_eq_zero hs fun c sm hsm => by
      rw [only_barrier sm hsm]; exact (h c).2⟩)

end Cert.A2A
-- ==== Proof.Frames.lean ====
/-
# The frames

Every program ends with its arguments unchanged and every counter at zero. The kernel as printed and its idealized
form have one text, so the whole run serves both; the references are straight lines of host operations.
-/
module

public import proofs.«01_k».proof.Proof.Run
public import proofs.«01_k».proof.Defs
public import Idealize.ShloMosaic.Lib.Claim
public import Idealize.ShloMosaic.Lib.StableHlo.RunHlo
public import proofs.«01_k».proof.Proof.Gen.Kernel
public import proofs.«01_k».proof.Proof.Gen.ReferenceIdeal
public import proofs.«01_k».proof.Proof.Gen.PlainIdeal
public import proofs.«01_k».proof.Proof.Gen.Pre_unclamped_KernelIdeal
public import proofs.«01_k».proof.Proof.Gen.Pre_unclamped_ReferenceIdeal

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

/-- The frame of the idealized form's text, read over words. -/
def quiet : Prop := ∀ (m : (ℓ : Loc Cert.KernelIdeal.nD Cert.KernelIdeal.τ Cert.KernelIdeal.sig) → Buf (Elt Bits) ℓ) (g : Dev Cert.KernelIdeal.nD → PrngReg), True →
  θ_run (Cert.KernelIdeal.defs (F := Bits)) (onTc (τ := Cert.KernelIdeal.τ) (Cert.KernelIdeal.main (F := Bits))) ⟨m, fun _ => 0, g⟩ (fun r => (∀ c : Dev Cert.KernelIdeal.nD,
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0)

theorem quiet_holds : quiet := fun m ρ _ =>
  (θ_run (Cert.KernelIdeal.defs (F := Bits)) _ _).mono (fun _ h => ⟨fun c => ⟨(h.1 c).1, (h.1 c).2.1⟩, h.2⟩) (run_main (F := Bits) m ρ)

/-- The kernel as printed has that text. -/
theorem same : quiet = Cert.quiescent_Kernel := by sl_kernel_rfl

theorem frame_kernel : Cert.quiescent_Kernel := Eq.mp same quiet_holds

theorem frame_reference : Cert.quiescent_ReferenceIdeal := fun m ρ _ => by
  hlo_run
  · exact fun _ => ⟨trivial, trivial⟩
  · exact sem_eq_zero_of_no_sems rfl _

theorem frame_plain : Cert.quiescent_PlainIdeal := fun m ρ _ => by
  hlo_run
  · exact fun _ => ⟨trivial, trivial⟩
  · exact sem_eq_zero_of_no_sems rfl _

end Cert.A2A

end
-- ==== Proof.Values.lean ====
/-
# What the kernel computes

Over the extended reals, where a change of format changes no number: a tile's accumulator is the sum of the products
so far, a tile is the activation of a whole row against a column, and every row of a device's result is the row of `x`
that its sender holds against the device's own columns of `w`.
-/
module

public import proofs.«01_k».proof.Proof.Run
public import Idealize.ShloMosaic.Lib.MatmulPlain
public import Idealize.ShloMosaic.Lib.ValueIdx
public import Idealize.ShloMosaic.Lib.Pipeline.ValueKit

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

theorem product_plain : dot_S2048x1024_S1024x512_S2048x512_1_0_0_1_n_n = DotDims.plain 2048 1024 512 := rfl

/-- One point's product of a block of `x` with half a block of `w`. -/
theorem pay16_apply (X : Vec Ideal S2048x1024 .f32) (W : Vec Ideal S1024x512 .f32) (p : Fin 2048) (q : Fin 512) :
    k0_pay16 X W (ValueIdx.ix2 p q) = ∑ k : Fin 1024, X (ValueIdx.ix2 p k) * W (ValueIdx.ix2 k q) := by
  unfold k0_pay16 k0_pay15
  simp only [shapeCast_self, product_plain, matmul]
  rw [Ideal.matmul_plain_apply, ValueIdx.constant_apply, Ideal.ofBits_zero_f32, zero_add]
  rfl

theorem pay17_eq (X : Vec Ideal S2048x1024 .f32) (W : Vec Ideal S1024x512 .f32) : k0_pay17 X W = k0_pay16 X W := by
  unfold k0_pay17; exact shapeCast_self _ _
theorem pay20_eq (X : Vec Ideal S2048x1024 .f32) (W : Vec Ideal S1024x512 .f32) : k0_pay20 X W = k0_pay16 X W := by
  unfold k0_pay20; exact shapeCast_self _ _
theorem pay18_eq (X : Vec Ideal S2048x1024 .f32) (W : Vec Ideal S1024x512 .f32) (A : Vec Ideal S2048x512 .f32) :
    k0_pay18 X W A = addf A (k0_pay16 X W) := by
  unfold k0_pay18; exact shapeCast_self _ _
theorem pay21_eq (X : Vec Ideal S2048x1024 .f32) (W : Vec Ideal S1024x512 .f32) (A : Vec Ideal S2048x512 .f32) :
    k0_pay21 X W A = addf A (k0_pay16 X W) := by
  unfold k0_pay21; exact shapeCast_self _ _

/-- The activation of one number. -/
def silu (z : EReal) : EReal := z * Idealize.ShloMosaic.Ideal.logistic z

theorem pay1_apply (A : Vec Ideal S2048x512 .f32) (i : (S2048x512).Idx) : k0_pay1 A i = silu (A i) := by
  unfold k0_pay1; rw [shapeCast_self]; rfl
theorem pay2_apply (A : Vec Ideal S2048x512 .f32) (i : (S2048x512).Idx) : k0_pay2 A i = silu (A i) := by
  unfold k0_pay2; rw [shapeCast_self]; rfl

/-- A chunk's half sent and received is what was sent: a change of format changes no number. -/
theorem pay9_pay3 (A : Vec Ideal S2048x512 .f32) : k0_pay9 (k0_pay3 A) = A := by
  unfold k0_pay9 k0_pay3
  exact (shapeCast_self _ _).trans (shapeCast_shapeCast (s := S2048x512) A _ _)
theorem pay10_pay4 (A : Vec Ideal S2048x512 .f32) : k0_pay10 (k0_pay4 A) = A := by
  unfold k0_pay10 k0_pay4
  exact (shapeCast_self _ _).trans (shapeCast_shapeCast (s := S2048x512) A _ _)

variable (m : (ℓ : Loc nD τ sig) → Buf (Elt Ideal) ℓ)

/-- Device `r`'s rows of `x` and its copy of `w`, at positions given as numbers. -/
def xn (r : Dev nD) (p k : ℕ) : EReal :=
  (show Vec Ideal S2048x8192 .f32 from m ((r : Thread nD τ).loc main_arg0)) (ValueIdx.ix2 ⟨p % 2048, Nat.mod_lt _ (by decide)⟩ ⟨k % 8192, Nat.mod_lt _ (by decide)⟩)
def wn (r : Dev nD) (k q : ℕ) : EReal :=
  (show Vec Ideal S8192x4096 .f32 from m ((r : Thread nD τ).loc main_arg1)) (ValueIdx.ix2 ⟨k % 8192, Nat.mod_lt _ (by decide)⟩ ⟨q % 4096, Nat.mod_lt _ (by decide)⟩)

theorem pt_coords {n : ℕ} (h : n < 32) : (grid0.coords (pt n) 0).val = n / 8 ∧ (grid0.coords (pt n) 1).val = n % 8 := by
  have := coords_val (pt n)
  rwa [show (pt n).val = n from Nat.mod_eq_of_lt h] at this

/-- The block of `x` at point `n`. -/
theorem Xb_apply (c : Dev nD) {n : ℕ} (h : n < 32) (p : Fin 2048) (k : Fin 1024) :
    Xb m c n (ValueIdx.ix2 p k) = xn m c p.val (1024 * (n % 8) + k.val) := by
  have h1 := (pt_coords h).2
  unfold Xb xn
  show (show Vec Ideal S2048x8192 .f32 from m ((c : Thread nD τ).loc main_arg0)) ((((cfgc (F := Ideal) c).win (0 : Fin 2)).blk (pt n)).view.emb (ValueIdx.ix2 p k)) = _
  refine congrArg _ (funext fun a => Fin.ext ?_)
  have hp := p.isLt; have hk := k.isLt
  have e : cc0_transform_0 (grid0.coords (pt n)) = ![0, n % 8] := by
    rw [← h1]
    unfold cc0_transform_0
    funext a; fin_cases a
    · rfl
    · show (BitVec.ofNat 32 (grid0.coords (pt n) 1).val).toNat = _
      rw [BitVec.toNat_ofNat, h1]; exact Nat.mod_eq_of_lt (by omega)
  have e' : ((cfgc (F := Ideal) c).win (0 : Fin 2)).index (pt n) = ![0, n % 8] := e
  fin_cases a
  · refine (Pipeline.Window.rect_emb_val _ _ _ _ rfl).trans ?_
    rw [e']; show 0 * 2048 + p.val = p.val % 2048; omega
  · refine (Pipeline.Window.rect_emb_val _ _ _ _ rfl).trans ?_
    rw [e']; show (n % 8) * 1024 + k.val = (1024 * (n % 8) + k.val) % 8192; omega

/-- The block of `w` at point `n`. -/
theorem Wb_apply (c : Dev nD) {n : ℕ} (h : n < 32) (k : Fin 1024) (q : Fin 1024) :
    Wb m c n (ValueIdx.ix2 k q) = wn m c (1024 * (n % 8) + k.val) (1024 * ((c.val + 1 + n / 8) % 4) + q.val) := by
  have h1 := (pt_coords h).2
  have h0 := (pt_coords h).1
  unfold Wb wn
  show (show Vec Ideal S8192x4096 .f32 from m ((c : Thread nD τ).loc main_arg1)) ((((cfgc (F := Ideal) c).win (1 : Fin 2)).blk (pt n)).view.emb (ValueIdx.ix2 k q)) = _
  refine congrArg _ (funext fun a => Fin.ext ?_)
  have hp := q.isLt; have hk := k.isLt
  have e' : ((cfgc (F := Ideal) c).win (1 : Fin 2)).index (pt n) = ![n % 8, (c.val + 1 + n / 8) % 4] :=
    (tbl_at (F := Ideal) c (grid0.coords (pt n))).trans (by rw [h0, h1])
  fin_cases a
  · refine (Pipeline.Window.rect_emb_val _ _ _ _ rfl).trans ?_
    rw [e']; show (n % 8) * 1024 + k.val = (1024 * (n % 8) + k.val) % 8192; omega
  · refine (Pipeline.Window.rect_emb_val _ _ _ _ rfl).trans ?_
    rw [e']; show ((c.val + 1 + n / 8) % 4) * 1024 + q.val = (1024 * ((c.val + 1 + n / 8) % 4) + q.val) % 4096; omega

/-- One point's products as a stretch of the long sum. -/
theorem point_sum (c : Dev nD) {n : ℕ} (h : n < 32) (p : Fin 2048) (o : ℕ) (W : Vec Ideal S1024x512 .f32) (q : Fin 512)
    (hW : ∀ k : Fin 1024, W (ValueIdx.ix2 k q) = wn m c (1024 * (n % 8) + k.val) o) :
    k0_pay16 (Xb m c n) W (ValueIdx.ix2 p q) = ∑ k ∈ Finset.range 1024, xn m c p.val (1024 * (n % 8) + k) * wn m c (1024 * (n % 8) + k) o := by
  rw [pay16_apply, Finset.sum_range]
  exact Finset.sum_congr rfl fun k _ => by rw [Xb_apply m c h, hW]

theorem WbL_apply (c : Dev nD) {n : ℕ} (h : n < 32) (q : Fin 512) (k : Fin 1024) :
    WbL m c n (ValueIdx.ix2 k q) = wn m c (1024 * (n % 8) + k.val) (1024 * ((c.val + 1 + n / 8) % 4) + q.val) := by
  have e : wL.emb (ValueIdx.ix2 k q) = ValueIdx.ix2 k (⟨q.val, by omega⟩ : Fin 1024) := by
    funext a; apply Fin.ext; rw [Rect.emb_apply]
    fin_cases a
    · show 0 + 1 * k.val = k.val; omega
    · show 0 + 1 * q.val = q.val; omega
  unfold WbL
  rw [e, Wb_apply m c h]
theorem WbR_apply (c : Dev nD) {n : ℕ} (h : n < 32) (q : Fin 512) (k : Fin 1024) :
    WbR m c n (ValueIdx.ix2 k q) = wn m c (1024 * (n % 8) + k.val) (1024 * ((c.val + 1 + n / 8) % 4) + (512 + q.val)) := by
  have e : wR.emb (ValueIdx.ix2 k q) = ValueIdx.ix2 k (⟨512 + q.val, by omega⟩ : Fin 1024) := by
    funext a; apply Fin.ext; rw [Rect.emb_apply]
    fin_cases a
    · show 0 + 1 * k.val = k.val; omega
    · show 512 + 1 * q.val = 512 + q.val; omega
  unfold WbR
  rw [e, Wb_apply m c h]

/-- The products' sum over the first `K` positions: device `c`'s row `p` against column `o` of `w`. -/
def dotTo (c : Dev nD) (K p o : ℕ) : EReal := ∑ k ∈ Finset.range K, xn m c p k * wn m c k o

theorem dotTo_step (c : Dev nD) (b p o : ℕ) :
    dotTo m c (1024 * (b + 1)) p o = dotTo m c (1024 * b) p o + ∑ k ∈ Finset.range 1024, xn m c p (1024 * b + k) * wn m c (1024 * b + k) o := by
  unfold dotTo
  rw [show 1024 * (b + 1) = 1024 * b + 1024 from rfl, Finset.sum_range_add]

/-- A sequence that starts anew at each multiple of eight and adds a point's products elsewhere holds the sum so far. -/
theorem acc_sum (c : Dev nD) (A : ℕ → Vec Ideal S2048x512 .f32) (W : ℕ → Vec Ideal S1024x512 .f32) (o : ℕ → ℕ) (q : Fin 512)
    (hW : ∀ n < 32, ∀ k : Fin 1024, W n (ValueIdx.ix2 k q) = wn m c (1024 * (n % 8) + k.val) (o (n / 8)))
    (h0 : A 0 = k0_pay16 (Xb m c 0) (W 0))
    (hs : ∀ n, A (n + 1) = if (n + 1) % 8 = 0 then k0_pay16 (Xb m c (n + 1)) (W (n + 1)) else addf (A n) (k0_pay16 (Xb m c (n + 1)) (W (n + 1))))
    (p : Fin 2048) : ∀ n < 32, A n (ValueIdx.ix2 p q) = dotTo m c (1024 * (n % 8 + 1)) p.val (o (n / 8)) := by
  have fresh : ∀ n < 32, n % 8 = 0 → k0_pay16 (Xb m c n) (W n) (ValueIdx.ix2 p q) = dotTo m c (1024 * (n % 8 + 1)) p.val (o (n / 8)) := by
    intro n hn h8
    rw [point_sum m c hn p _ _ q (hW n hn), dotTo_step, h8]
    unfold dotTo
    rw [Nat.mul_zero, Finset.range_zero, Finset.sum_empty, zero_add]
  intro n
  induction n with
  | zero => intro hn; rw [h0]; exact fresh 0 hn rfl
  | succ n ih =>
    intro hn
    rw [hs]
    by_cases h8 : (n + 1) % 8 = 0
    · rw [if_pos h8]; exact fresh _ hn h8
    · rw [if_neg h8, ValueIdx.addf_apply, ih (by omega), point_sum m c hn p _ _ q (hW _ hn)]
      have e1 : (n + 1) % 8 = n % 8 + 1 := by omega
      have e2 : (n + 1) / 8 = n / 8 := by omega
      rw [e1, e2, ← dotTo_step]

theorem accL_apply (c : Dev nD) (p : Fin 2048) (q : Fin 512) (n : ℕ) (hn : n < 32) :
    accL m c n (ValueIdx.ix2 p q) = dotTo m c (1024 * (n % 8 + 1)) p.val (1024 * ((c.val + 1 + n / 8) % 4) + q.val) :=
  acc_sum m c (accL m c) (WbL m c) (fun s => 1024 * ((c.val + 1 + s) % 4) + q.val) q (fun n hn k => WbL_apply m c hn q k)
    (pay17_eq _ _) (fun n => by rw [accL, pay17_eq, pay18_eq]) p n hn
theorem accR_apply (c : Dev nD) (p : Fin 2048) (q : Fin 512) (n : ℕ) (hn : n < 32) :
    accR m c n (ValueIdx.ix2 p q) = dotTo m c (1024 * (n % 8 + 1)) p.val (1024 * ((c.val + 1 + n / 8) % 4) + (512 + q.val)) :=
  acc_sum m c (accR m c) (WbR m c) (fun s => 1024 * ((c.val + 1 + s) % 4) + (512 + q.val)) q (fun n hn k => WbR_apply m c hn q k)
    (pay20_eq _ _) (fun n => by rw [accR, pay20_eq, pay21_eq]) p n hn

/-- The tile of step `s`: the activation of the whole row against the column. -/
theorem tile_apply (c : Dev nD) (s : ℕ) (hs : s < 4) (i : (S2048x1024).Idx) :
    halves (tileL m c s) (tileR m c s) i = silu (dotTo m c 8192 (i 0).val (1024 * ((c.val + 1 + s) % 4) + (i 1).val)) := by
  have hi : (i 1).val < 1024 := (i 1).isLt
  have hn : 8 * s + 7 < 32 := by omega
  have e1 : (8 * s + 7) / 8 = s := by omega
  have e2 : 1024 * ((8 * s + 7) % 8 + 1) = 8192 := by omega
  unfold halves
  by_cases h : (i 1).val < 512
  · rw [dif_pos h]
    unfold tileL
    rw [pay1_apply, show colL i h = ValueIdx.ix2 (⟨(i 0).val, (i 0).isLt⟩ : Fin 2048) ⟨(i 1).val, h⟩ from by funext a; fin_cases a <;> rfl,
      accL_apply m c _ _ _ hn, e1, e2]
  · rw [dif_neg h]
    unfold tileR
    rw [pay2_apply, show colR i = ValueIdx.ix2 (⟨(i 0).val, (i 0).isLt⟩ : Fin 2048) ⟨(i 1).val - 512, by omega⟩ from by funext a; fin_cases a <;> rfl,
      accR_apply m c _ _ _ hn, e1, e2]
    rw [show 512 + ((i 1).val - 512) = (i 1).val from by omega]

/-- What the `t`-th copy brings device `c`: the chunk of the device `t` places before it. -/
theorem stg_apply (c : Dev nD) (t : ℕ) (ht : t < 4) (i : (S2048x1024).Idx) :
    stg m c t i = silu (dotTo m ⟨(c.val + 4 - t) % 4, Nat.mod_lt _ (by decide)⟩ 8192 (i 0).val (1024 * c.val + (i 1).val)) := by
  have hc : c.val < 4 := c.isLt
  have recv : ∀ j : Fin 3, halves (k0_pay9 (chunkL m (sr c j) j)) (k0_pay10 (chunkR m (sr c j) j)) i
      = silu (dotTo m ⟨(c.val + 4 - (j.val + 1)) % 4, Nat.mod_lt _ (by decide)⟩ 8192 (i 0).val (1024 * c.val + (i 1).val)) := by
    intro j
    have hj := j.isLt
    unfold chunkL chunkR
    rw [pay9_pay3, pay10_pay4, tile_apply m _ _ (by omega)]
    have e1 : ((sr c j).val + 1 + j.val) % 4 = c.val := by unfold sr; show ((c.val + 3 - j.val) % 4 + 1 + j.val) % 4 = c.val; omega
    have e2 : sr c j = ⟨(c.val + 4 - (j.val + 1)) % 4, Nat.mod_lt _ (by decide)⟩ := by
      apply Fin.ext; unfold sr; show (c.val + 3 - j.val) % 4 = (c.val + 4 - (j.val + 1)) % 4; congr 1; omega
    rw [e1, e2]
  match t, ht with
  | 0, _ =>
    show halves (tileL m c 3) (tileR m c 3) i = _
    rw [tile_apply m c 3 (by decide), show (c.val + 1 + 3) % 4 = c.val from by omega]
    congr 2
    apply Fin.ext; show c.val = (c.val + 4 - 0) % 4; omega
  | 1, _ => exact recv 0
  | 2, _ => exact recv 1
  | 3, _ => exact recv 2

/-- Device `c`'s result: row `i 0` of the whole `x`, which device `i 0 / 2048` holds, against column `i 1` of its block. -/
theorem outVal_apply (c : Dev nD) (i : (S8192x1024).Idx) (r : Dev nD) (hr : r.val = (i 0).val / 2048) :
    outVal m c i = silu (dotTo m r 8192 ((i 0).val % 2048) (1024 * c.val + (i 1).val)) := by
  have hc : c.val < 4 := c.isLt
  have hi : (i 0).val < 8192 := (i 0).isLt
  unfold outVal
  rw [stg_apply m c _ (Nat.mod_lt _ (by decide))]
  have e : (⟨(c.val + 4 - (c.val + 4 - (i 0).val / 2048) % 4) % 4, Nat.mod_lt _ (by decide)⟩ : Dev nD) = r := by
    apply Fin.ext; show (c.val + 4 - (c.val + 4 - (i 0).val / 2048) % 4) % 4 = r.val; omega
  rw [e]; rfl

end Cert.A2A

end
-- ==== Proof.Equation.lean ====
/-
# The kernel's values against the reference's

The sum over the products of a device's own row is the whole product's entry; the activation `z * logistic z` is the
quotient `z / (1 + exp (-z))`; so each device ends holding its block of columns of the reference's result.
-/
module

public import proofs.«01_k».proof.Proof.Values
public import Idealize.ShloMosaic.Lib.IdealHost
public import Idealize.ShloMosaic.Lib.StackMember
public import Idealize.ShloMosaic.Lib.Layout
public import Idealize.ShloMosaic.Lib.ReduceAll

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

/-! ## Numbers -/

theorem exp_nonneg (z : EReal) : 0 ≤ Idealize.ShloMosaic.Ideal.exp z := by
  induction z with
  | bot => exact le_refl _
  | top => exact le_top
  | coe r => exact EReal.coe_nonneg.mpr (Real.exp_pos r).le

theorem one_add_exp_ne (z : EReal) : 1 + Idealize.ShloMosaic.Ideal.exp z ≠ 0 :=
  ne_of_gt (lt_of_lt_of_le (show (0 : EReal) < 1 from zero_lt_one) (le_add_of_nonneg_right (exp_nonneg z)))

/-- The kernel's activation is the reference's quotient, at the infinities too. -/
theorem silu_eq (z : EReal) : silu z = Idealize.ShloMosaic.Ideal.div z (1 + Idealize.ShloMosaic.Ideal.exp (-z)) := by
  unfold silu Idealize.ShloMosaic.Ideal.logistic Idealize.ShloMosaic.Ideal.div
  rw [if_neg (one_add_exp_ne _), if_neg (one_add_exp_ne _), one_mul]

theorem sixty : Idealize.ShloMosaic.Ideal.ofBits .f32 0x42700000#32 = ((60 : ℝ) : EReal) := by
  simp [Idealize.ShloMosaic.Ideal.ofBits, Idealize.ShloMosaic.Ideal.ieee, -EReal.coe_mul]; norm_num
theorem minus_sixty : Idealize.ShloMosaic.Ideal.ofBits .f32 0xC2700000#32 = ((-60 : ℝ) : EReal) := by
  simp [Idealize.ShloMosaic.Ideal.ofBits, Idealize.ShloMosaic.Ideal.ieee, -EReal.coe_mul]; norm_num

/-- Inside the clamp's bounds the clamp does nothing. -/
theorem clamp_eq (z : EReal) (h : max z (-z) ≤ ((60 : ℝ) : EReal)) : min ((60 : ℝ) : EReal) (max ((-60 : ℝ) : EReal) z) = z := by
  have h1 : z ≤ ((60 : ℝ) : EReal) := (le_max_left _ _).trans h
  have h2 : -z ≤ ((60 : ℝ) : EReal) := (le_max_right _ _).trans h
  have h3 : ((-60 : ℝ) : EReal) ≤ z := by
    rw [EReal.coe_neg]; exact EReal.neg_le.mp h2
  rw [max_eq_right h3, min_eq_right h1]

/-! ## Whole arrays -/

/-- The product of the whole `x` with `w` at row `a` and column `b`. -/
def whole (X : FVec Ideal ⟨2, ![8192, 8192]⟩ .f32) (W : FVec Ideal ⟨2, ![8192, 4096]⟩ .f32) (a : Fin 8192) (b : Fin 4096) : EReal :=
  ∑ k : Fin 8192, X (ValueIdx.ix2 a k) * W (ValueIdx.ix2 k b)

variable (m : (ℓ : Loc nD τ sig) → Buf (Elt Ideal) ℓ)

/-- Device `r`'s row against a column is the whole product's entry, when the devices hold their rows of `X` and all of `W`. -/
theorem dotTo_whole (X : FVec Ideal ⟨2, ![8192, 8192]⟩ .f32) (W : FVec Ideal ⟨2, ![8192, 4096]⟩ .f32)
    (r : Dev nD)
    (hX : m ((r : Thread nD τ).loc main_arg0) = Layout.block ⟨2, ![2048, 8192]⟩ ⟨2, ![8192, 8192]⟩ 0 4 r X)
    (hW : m ((r : Thread nD τ).loc main_arg1) = W) (p o : ℕ) (hp : p < 2048) (ho : o < 4096) (a : Fin 8192) (ha : a.val = 2048 * r.val + p) :
    dotTo m r 8192 p o = whole X W a ⟨o, ho⟩ := by
  unfold dotTo whole
  rw [Finset.sum_range]
  refine Finset.sum_congr rfl fun k _ => ?_
  have hk := k.isLt
  unfold xn wn
  rw [hX, hW]
  refine congrArg₂ (· * ·) ?_ ?_
  · show X _ = X _
    refine congrArg X (funext fun b => Fin.ext ?_)
    fin_cases b
    · show r.val * 2048 + p % 2048 = a.val; omega
    · show k.val % 8192 = k.val; omega
  · show W _ = W _
    refine congrArg W (funext fun b => Fin.ext ?_)
    fin_cases b
    · show k.val % 8192 = k.val; omega
    · show o % 4096 = o; omega

/-- Each device's result is its block of columns of the activation of the whole product. -/
theorem outVal_block (X : FVec Ideal ⟨2, ![8192, 8192]⟩ .f32) (W : FVec Ideal ⟨2, ![8192, 4096]⟩ .f32)
    (h : ∀ r : Dev nD, m ((r : Thread nD τ).loc main_arg0) = Layout.block ⟨2, ![2048, 8192]⟩ ⟨2, ![8192, 8192]⟩ 0 4 r X
      ∧ m ((r : Thread nD τ).loc main_arg1) = W)
    (v : FVec Ideal ⟨2, ![8192, 4096]⟩ .f32) (hv : ∀ a b, v (ValueIdx.ix2 a b) = silu (whole X W a b)) (c : Dev nD) :
    outVal m c = Layout.block ⟨2, ![8192, 1024]⟩ ⟨2, ![8192, 4096]⟩ 1 4 c v := by
  funext i
  have hc : c.val < 4 := c.isLt
  have hi : (i 0).val < 8192 := (i 0).isLt
  have hj : (i 1).val < 1024 := (i 1).isLt
  rw [outVal_apply m c i ⟨(i 0).val / 2048, by show _ < 4; omega⟩ rfl,
    dotTo_whole m X W _ (h _).1 (h _).2 _ _ (Nat.mod_lt _ (by decide)) (show 1024 * c.val + (i 1).val < 4096 by omega) ⟨(i 0).val, hi⟩
      (by show (i 0).val = 2048 * ((i 0).val / 2048) + (i 0).val % 2048; omega), ← hv]
  show v _ = v _
  refine congrArg v (funext fun b => Fin.ext ?_)
  fin_cases b
  · rfl
  · show 1024 * c.val + (i 1).val = c.val * 1024 + (i 1).val; omega

/-- The reference's quotient, entry by entry. -/
theorem quotient_apply (hb : (⟨0, ![]⟩ : Shape).BroadcastsInDim ⟨2, ![8192, 4096]⟩ ![]) (D E : FVec Ideal ⟨2, ![8192, 4096]⟩ .f32)
    (i : (⟨2, ![8192, 4096]⟩ : Shape).Idx) (hi : E i = D i) :
    Host.divf D (addf (broadcastInDim ⟨2, ![8192, 4096]⟩ ![] hb (constant (F := Ideal) ⟨0, ![]⟩ .f32 0x3F800000#32)) (Host.exp (Host.negf E))) i
      = silu (D i) := by
  rw [ValueIdx.hostDivf_apply, ValueIdx.addf_apply, ValueIdx.broadcastInDim_scalar_apply, ValueIdx.constant_apply,
    Idealize.ShloMosaic.Ideal.ofBits_one_f32, silu_eq, ← hi]
  rfl

/-- The reference without the clamp. -/
theorem plain_apply (hb : (⟨0, ![]⟩ : Shape).BroadcastsInDim ⟨2, ![8192, 4096]⟩ ![]) (X : FVec Ideal ⟨2, ![8192, 8192]⟩ .f32)
    (W : FVec Ideal ⟨2, ![8192, 4096]⟩ .f32) (a : Fin 8192) (b : Fin 4096) :
    Host.divf (Host.dotGeneral (DotDims.plain 8192 8192 4096) none X W)
      (addf (broadcastInDim ⟨2, ![8192, 4096]⟩ ![] hb (constant (F := Ideal) ⟨0, ![]⟩ .f32 0x3F800000#32))
        (Host.exp (Host.negf (Host.dotGeneral (DotDims.plain 8192 8192 4096) none X W)))) (ValueIdx.ix2 a b)
      = silu (whole X W a b) := by
  rw [quotient_apply hb _ _ _ rfl, StackMember.dotGeneral_plain_apply]; rfl

/-- The reference with the clamp, at an entry where the product lies within it. -/
theorem clamped_apply (hb : (⟨0, ![]⟩ : Shape).BroadcastsInDim ⟨2, ![8192, 4096]⟩ ![]) (X : FVec Ideal ⟨2, ![8192, 8192]⟩ .f32)
    (W : FVec Ideal ⟨2, ![8192, 4096]⟩ .f32) (a : Fin 8192) (b : Fin 4096) (h : max (whole X W a b) (-whole X W a b) ≤ ((60 : ℝ) : EReal)) :
    Host.divf (Host.dotGeneral (DotDims.plain 8192 8192 4096) none X W)
      (addf (broadcastInDim ⟨2, ![8192, 4096]⟩ ![] hb (constant (F := Ideal) ⟨0, ![]⟩ .f32 0x3F800000#32))
        (Host.exp (Host.negf (minimumf (broadcastInDim ⟨2, ![8192, 4096]⟩ ![] hb (constant (F := Ideal) ⟨0, ![]⟩ .f32 0x42700000#32))
          (maximumf (broadcastInDim ⟨2, ![8192, 4096]⟩ ![] hb (constant (F := Ideal) ⟨0, ![]⟩ .f32 0xC2700000#32))
            (Host.dotGeneral (DotDims.plain 8192 8192 4096) none X W)))))) (ValueIdx.ix2 a b)
      = silu (whole X W a b) := by
  have hd : Host.dotGeneral (DotDims.plain 8192 8192 4096) none X W (ValueIdx.ix2 a b) = whole X W a b :=
    StackMember.dotGeneral_plain_apply _ _ _ _ _
  rw [quotient_apply hb, hd]
  rw [ValueIdx.minimumf_apply, ValueIdx.maximumf_apply, ValueIdx.broadcastInDim_scalar_apply, ValueIdx.broadcastInDim_scalar_apply,
    ValueIdx.constant_apply, ValueIdx.constant_apply, sixty, minus_sixty, hd]
  exact clamp_eq _ h

/-- What the precondition says of one device's rows. -/
theorem bounded (hb : (⟨0, ![]⟩ : Shape).BroadcastsInDim ⟨2, ![2048, 4096]⟩ ![]) (hr : (⟨2, ![2048, 4096]⟩ : Shape).ReducesTo [0, 1] ⟨0, ![]⟩)
    (hu : 0 < (⟨0, ![]⟩ : Shape).numel) (X : FVec Ideal ⟨2, ![2048, 8192]⟩ .f32) (W : FVec Ideal ⟨2, ![8192, 4096]⟩ .f32)
    (h : Host.reduce IntOp.andi (cmpf .ole (Host.absf (Host.dotGeneral (DotDims.plain 2048 8192 4096) none X W))
      (broadcastInDim ⟨2, ![2048, 4096]⟩ ![] hb (constant (F := Ideal) ⟨0, ![]⟩ .f32 0x42700000#32))) (constantI ⟨0, ![]⟩ 1 1#1) hr hu = fun _ => 1#1)
    (p : Fin 2048) (b : Fin 4096) (z : EReal) (hz : ∑ k : Fin 8192, X (ValueIdx.ix2 p k) * W (ValueIdx.ix2 k b) = z) :
    max z (-z) ≤ ((60 : ℝ) : EReal) := by
  have e := Host.reduce_andi_all _ _ hr hu ValueIdx.ix0 (congrFun h _) (ValueIdx.ix2 p b)
  have hd : Host.dotGeneral (DotDims.plain 2048 8192 4096) none X W (ValueIdx.ix2 p b) = z :=
    (StackMember.dotGeneral_plain_apply _ _ _ _ _).trans hz
  rw [ValueIdx.cmpf_apply, ValueIdx.broadcastInDim_scalar_apply, ValueIdx.constant_apply, sixty] at e
  have e2 : Idealize.ShloMosaic.Ideal.cmp .ole (max z (-z)) ((60 : ℝ) : EReal) = 1#1 := by rw [← hd]; exact e
  by_contra hn
  simp [Idealize.ShloMosaic.Ideal.cmp, hn] at e2

end Cert.A2A

end
-- ==== Proof.Claims.lean ====
/-
# The value claims

From memories where the devices hold their rows of `x` and all of `w`, each device ends with its block of columns of
what the reference ends with: of the reference without the clamp always, of the reference with it where the product
stays within the clamp.
-/
module

public import proofs.«01_k».proof.Proof.Equation
public import proofs.«01_k».proof.Proof.Frames
public import Idealize.ShloMosaic.Lib.ReduceAll

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

/-- The references' and the precondition's products are plain matrix products. -/
theorem plain_dot : Cert.PlainIdeal.dot_S8192x8192_S8192x4096_S8192x4096_1_0_0_1_n_n = DotDims.plain 8192 8192 4096 := rfl
theorem reference_dot : Cert.ReferenceIdeal.dot_S8192x8192_S8192x4096_S8192x4096_1_0_0_1_n_n = DotDims.plain 8192 8192 4096 := rfl
theorem unclamped_dot : Cert.Pre_unclamped_KernelIdeal.dot_S2048x8192_S8192x4096_S2048x4096_1_0_0_1_n_n = DotDims.plain 2048 8192 4096 := rfl

/-- Each device ends with its columns of the result of the reference without the clamp. -/
theorem algebraic_plain : Cert.algebraic_KernelIdeal_PlainIdeal := by
  pair_intro
  rotate_left
  · hlo_run
  · refine (θ_run _ _ _).mono (fun r h c => ⟨(h.1 c).2.2.trans ?_, (h.1 c).1, (h.1 c).2.1⟩) (run_main (F := Ideal) m g)
    refine outVal_block m (m' (((0 : Dev Cert.PlainIdeal.nD).tc : Thread Cert.PlainIdeal.nD Cert.PlainIdeal.τ).loc Cert.PlainIdeal.main_arg0))
      (m' (((0 : Dev Cert.PlainIdeal.nD).tc : Thread Cert.PlainIdeal.nD Cert.PlainIdeal.τ).loc Cert.PlainIdeal.main_arg1)) hagree _ (fun a b => ?_) c
    rw [plain_dot]
    exact plain_apply _ _ _ a b

/-- Where every device's rows of the product lie within the clamp, the whole product does. -/
theorem whole_bounded (m : (ℓ : Loc nD τ sig) → Buf (Elt Ideal) ℓ) (hpre : Cert.Pre_KernelIdeal_unclamped_KernelIdeal m)
    (X : FVec Ideal ⟨2, ![8192, 8192]⟩ .f32) (W : FVec Ideal ⟨2, ![8192, 4096]⟩ .f32)
    (h : ∀ r : Dev nD, m ((r : Thread nD τ).loc main_arg0) = Layout.block ⟨2, ![2048, 8192]⟩ ⟨2, ![8192, 8192]⟩ 0 4 r X
      ∧ m ((r : Thread nD τ).loc main_arg1) = W) (a : Fin 8192) (b : Fin 4096) :
    max (whole X W a b) (-whole X W a b) ≤ ((60 : ℝ) : EReal) := by
  have ha := a.isLt
  have hp := hpre ⟨a.val / 2048, by show _ < 4; omega⟩
  rw [(h _).1, (h _).2] at hp
  dsimp only [Cert.Pre_unclamped_KernelIdeal.fn] at hp
  rw [unclamped_dot] at hp
  refine bounded _ _ _ _ _ hp ⟨a.val % 2048, Nat.mod_lt _ (by decide)⟩ b _ (Finset.sum_congr rfl fun k _ => congrArg₂ (· * ·) ?_ rfl)
  show X _ = X _
  refine congrArg X (funext fun d => Fin.ext ?_)
  fin_cases d
  · show (a.val / 2048) * 2048 + a.val % 2048 = a.val; omega
  · rfl

/-- Each device ends with its columns of the reference's result, where the product lies within the clamp. -/
theorem algebraic_reference : Cert.algebraic_KernelIdeal_ReferenceIdeal_pre_unclamped_KernelIdeal := by
  pair_intro
  rotate_left
  · hlo_run
  · refine (θ_run _ _ _).mono (fun r h c => ⟨(h.1 c).2.2.trans ?_, (h.1 c).1, (h.1 c).2.1⟩) (run_main (F := Ideal) m g)
    refine outVal_block m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) hagree _ (fun a b => ?_) c
    rw [reference_dot]
    exact clamped_apply _ _ _ a b (whole_bounded m hpre _ _ hagree a b)

end Cert.A2A

end
-- ==== Proof.lean ====
/-
The proof of `Cert.Claim`: the programs' side conditions, the frames of the kernel and of the two references, and
the kernel's values against each reference. The kernel's frames and values come from one run of the whole program,
stated over any float values (`Proof/Run.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.PlainIdeal
public import proofs.«01_k».proof.Proof.Gen.Pre_unclamped_KernelIdeal
public import proofs.«01_k».proof.Proof.Gen.Pre_unclamped_ReferenceIdeal
public import proofs.«01_k».proof.Proof.Frames
public import proofs.«01_k».proof.Proof.Claims

@[expose] public section

noncomputable section

namespace Cert.Proof

theorem claim : Cert.Claim := ⟨Cert.Kernel.Gen.facts, Cert.KernelIdeal.Gen.facts, Cert.ReferenceIdeal.Gen.facts,
  Cert.PlainIdeal.Gen.facts, Cert.Pre_unclamped_KernelIdeal.Gen.facts, Cert.Pre_unclamped_ReferenceIdeal.Gen.facts,
  Cert.A2A.frame_kernel, Cert.A2A.frame_ideal, fun m ρ _ => Cert.A2A.frame_ideal m ρ trivial,
  Cert.A2A.frame_reference, fun m ρ _ => Cert.A2A.frame_reference m ρ trivial, Cert.A2A.frame_plain, trivial,
  Cert.A2A.algebraic_reference, Cert.A2A.algebraic_plain⟩

end Cert.Proof

end
